-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x4 : Shape := ⟨2, ![16384, 4]⟩
abbrev S4x501 : Shape := ⟨2, ![4, 501]⟩
abbrev S4 : Shape := ⟨1, ![4]⟩
abbrev S_ : Shape := ⟨0, ![]⟩
abbrev S8x512 : Shape := ⟨2, ![8, 512]⟩
abbrev S1 : Shape := ⟨1, ![1]⟩
abbrev S2 : Shape := ⟨1, ![2]⟩
abbrev S8x1 : Shape := ⟨2, ![8, 1]⟩
abbrev S512x512 : Shape := ⟨2, ![512, 512]⟩
abbrev S4x16384 : Shape := ⟨2, ![4, 16384]⟩
abbrev S4x512 : Shape := ⟨2, ![4, 512]⟩
abbrev S16 : Shape := ⟨1, ![16]⟩
abbrev S1x16 : Shape := ⟨2, ![1, 16]⟩

abbrev nBuf : Table → Nat
  | .hbm => 24
  | .local .tc .vmem => 4
  | .local .scVector .vmem => 4
  | _ => 0

abbrev bufTy : (tb : Table) → Fin (nBuf tb) → BufTy
  | .hbm, ⟨0, _⟩ => ⟨S16384x4, .f32⟩
  | .hbm, ⟨1, _⟩ => ⟨S4x501, .f32⟩
  | .hbm, ⟨2, _⟩ => ⟨S4, .f32⟩
  | .hbm, ⟨3, _⟩ => ⟨S_, .f32⟩
  | .hbm, ⟨4, _⟩ => ⟨S8x512, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S2, .i32⟩
  | .hbm, ⟨10, _⟩ => ⟨S8x512, .f32⟩
  | .hbm, ⟨11, _⟩ => ⟨S_, .f32⟩
  | .hbm, ⟨12, _⟩ => ⟨S8x1, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S8x1, .f32⟩
  | .hbm, ⟨19, _⟩ => ⟨S8x512, .f32⟩
  | .hbm, ⟨20, _⟩ => ⟨S8x512, .f32⟩
  | .hbm, ⟨21, _⟩ => ⟨S4x16384, .f32⟩
  | .hbm, ⟨22, _⟩ => ⟨S4x16384, .f32⟩
  | .hbm, ⟨23, _⟩ => ⟨S16384x4, .f32⟩
  | .local .tc .vmem, ⟨0, _⟩ => ⟨S8x512, .f32⟩
  | .local .tc .vmem, ⟨1, _⟩ => ⟨S8x1, .f32⟩
  | .local .tc .vmem, ⟨2, _⟩ => ⟨S8x512, .f32⟩
  | .local .tc .vmem, ⟨3, _⟩ => ⟨S8x512, .f32⟩
  | .local .scVector .vmem, ⟨0, _⟩ => ⟨S4x512, .f32⟩
  | .local .scVector .vmem, ⟨1, _⟩ => ⟨S8x512, .f32⟩
  | .local .scVector .vmem, ⟨2, _⟩ => ⟨S8x512, .f32⟩
  | .local .scVector .vmem, ⟨3, _⟩ => ⟨S4x512, .f32⟩
  | _, _ => ⟨S16384x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v11_scv : Ref sig .scVector := ⟨.hbm, 21, rfl⟩
abbrev main_v10_1_scv : Ref sig .scVector := ⟨.hbm, 20, rfl⟩
abbrev main_v10_0_scv : Ref sig .scVector := ⟨.hbm, 19, rfl⟩
abbrev main_v12_scv : Ref sig .scVector := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k1_t1_loop : Scf.Loop 32 :=
  let c0_i32_7 : BitVec 32 := 0#32
  let c32_i32 : BitVec 32 := 32#32
  let v8 : BitVec 32 := Scalar.addi c0_i32_7 c32_i32
  let c1_i32 : BitVec 32 := 1#32
  ⟨c0_i32_7, v8, c1_i32⟩
def k1_off2 (k1_t1 : Fin k1_t1_loop.trips) : Fin 2 → Nat :=
  let c0_i32_37 : BitVec 32 := 0#32
  let v18 : Index := Scalar.indexCast c0_i32_37
  let c0_i32_36 : BitVec 32 := 0#32
  let c0_i32_7 : BitVec 32 := 0#32
  let c1_i32 : BitVec 32 := 1#32
  let arg13 : BitVec 32 := Scf.iv c0_i32_7 c1_i32 k1_t1
  let c1_i32_35 : BitVec 32 := 1#32
  let v15 : BitVec 32 := Scalar.muli arg13 c1_i32_35
  let v16 : BitVec 32 := Scalar.addi c0_i32_36 v15
  let c16_i32 : BitVec 32 := 16#32
  let v17 : BitVec 32 := Scalar.muli v16 c16_i32
  let v19 : Index := Scalar.indexCast v17
  ![0, v19.toNat]

def k1_chk1 (v7 : IVec S16 32) (v35 : IVec S16 32) : Prop :=
  (∀ a x, ((![v7, v35] : Fin 2 → IVec S16 32) a x).toNat < S8x512.size a) ∧
  (∀ a x, ((![v7, v35] : Fin 2 → IVec S16 32) a x).toNat < S8x512.size a)
theorem k1_idx1_inb : ∀ (v7 : IVec S16 32) (v35 : IVec S16 32) (k1_hw1 : k1_chk1 v7 v35), ∀ a x, ((![v7, v35] : Fin 2 → IVec S16 32) a x).toNat < S8x512.size a := fun v7 v35 k1_hw1 => k1_hw1.1
theorem k1_idx2_inb : ∀ (v7 : IVec S16 32) (v35 : IVec S16 32) (k1_hw1 : k1_chk1 v7 v35), ∀ a x, ((![v7, v35] : Fin 2 → IVec S16 32) a x).toNat < S8x512.size a := fun v7 v35 k1_hw1 => k1_hw1.2
def k1_off3 (k1_t1 : Fin k1_t1_loop.trips) : Fin 2 → Nat :=
  let c0_i32_42 : BitVec 32 := 0#32
  let v55 : Index := Scalar.indexCast c0_i32_42
  let c0_i32_36 : BitVec 32 := 0#32
  let c0_i32_7 : BitVec 32 := 0#32
  let c1_i32 : BitVec 32 := 1#32
  let arg13 : BitVec 32 := Scf.iv c0_i32_7 c1_i32 k1_t1
  let c1_i32_35 : BitVec 32 := 1#32
  let v15 : BitVec 32 := Scalar.muli arg13 c1_i32_35
  let v16 : BitVec 32 := Scalar.addi c0_i32_36 v15
  let c16_i32 : BitVec 32 := 16#32
  let v17 : BitVec 32 := Scalar.muli v16 c16_i32
  let v56 : Index := Scalar.indexCast v17
  ![0, v56.toNat]
@[reducible] def k1_t2_loop : Scf.Loop 32 :=
  let c0_i32_14 : BitVec 32 := 0#32
  let c32_i32_15 : BitVec 32 := 32#32
  let v10 : BitVec 32 := Scalar.addi c0_i32_14 c32_i32_15
  let c1_i32_16 : BitVec 32 := 1#32
  ⟨c0_i32_14, v10, c1_i32_16⟩
def k1_off4 (k1_t2 : Fin k1_t2_loop.trips) : Fin 2 → Nat :=
  let c1_i32_37 : BitVec 32 := 1#32
  let v18 : Index := Scalar.indexCast c1_i32_37
  let c0_i32_36 : BitVec 32 := 0#32
  let c0_i32_14 : BitVec 32 := 0#32
  let c1_i32_16 : BitVec 32 := 1#32
  let arg13 : BitVec 32 := Scf.iv c0_i32_14 c1_i32_16 k1_t2
  let c1_i32_35 : BitVec 32 := 1#32
  let v15 : BitVec 32 := Scalar.muli arg13 c1_i32_35
  let v16 : BitVec 32 := Scalar.addi c0_i32_36 v15
  let c16_i32 : BitVec 32 := 16#32
  let v17 : BitVec 32 := Scalar.muli v16 c16_i32
  let v19 : Index := Scalar.indexCast v17
  ![1, v19.toNat]

def k1_chk2 (v9 : IVec S16 32) (v35 : IVec S16 32) : Prop :=
  (∀ a x, ((![v9, v35] : Fin 2 → IVec S16 32) a x).toNat < S8x512.size a) ∧
  (∀ a x, ((![v9, v35] : Fin 2 → IVec S16 32) a x).toNat < S8x512.size a)
theorem k1_idx3_inb : ∀ (v9 : IVec S16 32) (v35 : IVec S16 32) (k1_hw2 : k1_chk2 v9 v35), ∀ a x, ((![v9, v35] : Fin 2 → IVec S16 32) a x).toNat < S8x512.size a := fun v9 v35 k1_hw2 => k1_hw2.1
theorem k1_idx4_inb : ∀ (v9 : IVec S16 32) (v35 : IVec S16 32) (k1_hw2 : k1_chk2 v9 v35), ∀ a x, ((![v9, v35] : Fin 2 → IVec S16 32) a x).toNat < S8x512.size a := fun v9 v35 k1_hw2 => k1_hw2.2
def k1_off5 (k1_t2 : Fin k1_t2_loop.trips) : Fin 2 → Nat :=
  let c1_i32_42 : BitVec 32 := 1#32
  let v55 : Index := Scalar.indexCast c1_i32_42
  let c0_i32_36 : BitVec 32 := 0#32
  let c0_i32_14 : BitVec 32 := 0#32
  let c1_i32_16 : BitVec 32 := 1#32
  let arg13 : BitVec 32 := Scf.iv c0_i32_14 c1_i32_16 k1_t2
  let c1_i32_35 : BitVec 32 := 1#32
  let v15 : BitVec 32 := Scalar.muli arg13 c1_i32_35
  let v16 : BitVec 32 := Scalar.addi c0_i32_36 v15
  let c16_i32 : BitVec 32 := 16#32
  let v17 : BitVec 32 := Scalar.muli v16 c16_i32
  let v56 : Index := Scalar.indexCast v17
  ![1, v56.toNat]
@[reducible] def k1_t3_loop : Scf.Loop 32 :=
  let c0_i32_23 : BitVec 32 := 0#32
  let c32_i32_24 : BitVec 32 := 32#32
  let v12 : BitVec 32 := Scalar.addi c0_i32_23 c32_i32_24
  let c1_i32_25 : BitVec 32 := 1#32
  ⟨c0_i32_23, v12, c1_i32_25⟩
def k1_off6 (k1_t3 : Fin k1_t3_loop.trips) : Fin 2 → Nat :=
  let c2_i32_37 : BitVec 32 := 2#32
  let v18 : Index := Scalar.indexCast c2_i32_37
  let c0_i32_36 : BitVec 32 := 0#32
  let c0_i32_23 : BitVec 32 := 0#32
  let c1_i32_25 : BitVec 32 := 1#32
  let arg13 : BitVec 32 := Scf.iv c0_i32_23 c1_i32_25 k1_t3
  let c1_i32_35 : BitVec 32 := 1#32
  let v15 : BitVec 32 := Scalar.muli arg13 c1_i32_35
  let v16 : BitVec 32 := Scalar.addi c0_i32_36 v15
  let c16_i32 : BitVec 32 := 16#32
  let v17 : BitVec 32 := Scalar.muli v16 c16_i32
  let v19 : Index := Scalar.indexCast v17
  ![2, v19.toNat]

def k1_chk3 (v11 : IVec S16 32) (v35 : IVec S16 32) : Prop :=
  (∀ a x, ((![v11, v35] : Fin 2 → IVec S16 32) a x).toNat < S8x512.size a) ∧
  (∀ a x, ((![v11, v35] : Fin 2 → IVec S16 32) a x).toNat < S8x512.size a)
theorem k1_idx5_inb : ∀ (v11 : IVec S16 32) (v35 : IVec S16 32) (k1_hw3 : k1_chk3 v11 v35), ∀ a x, ((![v11, v35] : Fin 2 → IVec S16 32) a x).toNat < S8x512.size a := fun v11 v35 k1_hw3 => k1_hw3.1
theorem k1_idx6_inb : ∀ (v11 : IVec S16 32) (v35 : IVec S16 32) (k1_hw3 : k1_chk3 v11 v35), ∀ a x, ((![v11, v35] : Fin 2 → IVec S16 32) a x).toNat < S8x512.size a := fun v11 v35 k1_hw3 => k1_hw3.2
def k1_off7 (k1_t3 : Fin k1_t3_loop.trips) : Fin 2 → Nat :=
  let c2_i32_42 : BitVec 32 := 2#32
  let v55 : Index := Scalar.indexCast c2_i32_42
  let c0_i32_36 : BitVec 32 := 0#32
  let c0_i32_23 : BitVec 32 := 0#32
  let c1_i32_25 : BitVec 32 := 1#32
  let arg13 : BitVec 32 := Scf.iv c0_i32_23 c1_i32_25 k1_t3
  let c1_i32_35 : BitVec 32 := 1#32
  let v15 : BitVec 32 := Scalar.muli arg13 c1_i32_35
  let v16 : BitVec 32 := Scalar.addi c0_i32_36 v15
  let c16_i32 : BitVec 32 := 16#32
  let v17 : BitVec 32 := Scalar.muli v16 c16_i32
  let v56 : Index := Scalar.indexCast v17
  ![2, v56.toNat]
@[reducible] def k1_t4_loop : Scf.Loop 32 :=
  let c0_i32_31 : BitVec 32 := 0#32
  let c32_i32_32 : BitVec 32 := 32#32
  let v14 : BitVec 32 := Scalar.addi c0_i32_31 c32_i32_32
  let c1_i32_33 : BitVec 32 := 1#32
  ⟨c0_i32_31, v14, c1_i32_33⟩
def k1_off8 (k1_t4 : Fin k1_t4_loop.trips) : Fin 2 → Nat :=
  let c3_i32_37 : BitVec 32 := 3#32
  let v18 : Index := Scalar.indexCast c3_i32_37
  let c0_i32_36 : BitVec 32 := 0#32
  let c0_i32_31 : BitVec 32 := 0#32
  let c1_i32_33 : BitVec 32 := 1#32
  let arg13 : BitVec 32 := Scf.iv c0_i32_31 c1_i32_33 k1_t4
  let c1_i32_35 : BitVec 32 := 1#32
  let v15 : BitVec 32 := Scalar.muli arg13 c1_i32_35
  let v16 : BitVec 32 := Scalar.addi c0_i32_36 v15
  let c16_i32 : BitVec 32 := 16#32
  let v17 : BitVec 32 := Scalar.muli v16 c16_i32
  let v19 : Index := Scalar.indexCast v17
  ![3, v19.toNat]

def k1_chk4 (v13 : IVec S16 32) (v35 : IVec S16 32) : Prop :=
  (∀ a x, ((![v13, v35] : Fin 2 → IVec S16 32) a x).toNat < S8x512.size a) ∧
  (∀ a x, ((![v13, v35] : Fin 2 → IVec S16 32) a x).toNat < S8x512.size a)
theorem k1_idx7_inb : ∀ (v13 : IVec S16 32) (v35 : IVec S16 32) (k1_hw4 : k1_chk4 v13 v35), ∀ a x, ((![v13, v35] : Fin 2 → IVec S16 32) a x).toNat < S8x512.size a := fun v13 v35 k1_hw4 => k1_hw4.1
theorem k1_idx8_inb : ∀ (v13 : IVec S16 32) (v35 : IVec S16 32) (k1_hw4 : k1_chk4 v13 v35), ∀ a x, ((![v13, v35] : Fin 2 → IVec S16 32) a x).toNat < S8x512.size a := fun v13 v35 k1_hw4 => k1_hw4.2
def k1_off9 (k1_t4 : Fin k1_t4_loop.trips) : Fin 2 → Nat :=
  let c3_i32_42 : BitVec 32 := 3#32
  let v55 : Index := Scalar.indexCast c3_i32_42
  let c0_i32_36 : BitVec 32 := 0#32
  let c0_i32_31 : BitVec 32 := 0#32
  let c1_i32_33 : BitVec 32 := 1#32
  let arg13 : BitVec 32 := Scf.iv c0_i32_31 c1_i32_33 k1_t4
  let c1_i32_35 : BitVec 32 := 1#32
  let v15 : BitVec 32 := Scalar.muli arg13 c1_i32_35
  let v16 : BitVec 32 := Scalar.addi c0_i32_36 v15
  let c16_i32 : BitVec 32 := 16#32
  let v17 : BitVec 32 := Scalar.muli v16 c16_i32
  let v56 : Index := Scalar.indexCast v17
  ![3, v56.toNat]
def k1_off10 (i : grid1.Coords) : Fin 2 → Nat :=
  let c0_i32_35_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x4 : Shape := ⟨2, ![16384, 4]⟩
abbrev S4x501 : Shape := ⟨2, ![4, 501]⟩
abbrev S4 : Shape := ⟨1, ![4]⟩
abbrev S_ : Shape := ⟨0, ![]⟩
abbrev S501 : Shape := ⟨1, ![501]⟩
abbrev S1x1x501 : Shape := ⟨3, ![1, 1, 501]⟩
abbrev S16384x4x1 : Shape := ⟨3, ![16384, 4, 1]⟩
abbrev S16384x4x501 : Shape := ⟨3, ![16384, 4, 501]⟩
abbrev S1x4x501 : Shape := ⟨3, ![1, 4, 501]⟩
abbrev S1x4 : Shape := ⟨2, ![1, 4]⟩

abbrev nBuf : Space → Nat
  | .hbm => 79
  | .vmem => 0
  | .smem => 0
  | _ => 0

abbrev bufTy : (tb : Table) → Fin (tcTables nBuf tb) → BufTy
  | .hbm, ⟨0, _⟩ => ⟨S16384x4, .f32⟩
  | .hbm, ⟨1, _⟩ => ⟨S4x501, .f32⟩
  | .hbm, ⟨2, _⟩ => ⟨S4, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S16384x4, .f32⟩
  | .hbm, ⟨7, _⟩ => ⟨S16384x4, .f32⟩
  | .hbm, ⟨8, _⟩ => ⟨S_, .f32⟩
  | .hbm, ⟨9, _⟩ => ⟨S16384x4, .f32⟩
  | .hbm, ⟨10, _⟩ => ⟨S16384x4, .f32⟩
  | .hbm, ⟨11, _⟩ => ⟨S_, .f32⟩
  | .hbm, ⟨12, _⟩ => ⟨S16384x4, .f32⟩
  | .hbm, ⟨13, _⟩ => ⟨S16384x4, .f32⟩
  | .hbm, ⟨14, _⟩ => ⟨S_, .f32⟩
  | .hbm, ⟨15, _⟩ => ⟨S16384x4, .f32⟩
  | .hbm, ⟨16, _⟩ => ⟨S16384x4, .f32⟩
  | .hbm, ⟨17, _⟩ => ⟨S_, .f32⟩
  | .hbm, ⟨18, _⟩ => ⟨S16384x4, .f32⟩
  | .hbm, ⟨19, _⟩ => ⟨S16384x4, .f32⟩
  | .hbm, ⟨20, _⟩ => ⟨S16384x4, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S16384x4, .i32⟩
  | .hbm, ⟨25, _⟩ => ⟨S16384x4, .i32⟩
  | .hbm, ⟨26, _⟩ => ⟨S_, .i32⟩
  | .hbm, ⟨27, _⟩ => ⟨S16384x4, .i32⟩
  | .hbm, ⟨28, _⟩ => ⟨S16384x4, .i32⟩
  | .hbm, ⟨29, _⟩ => ⟨S501, .i32⟩
  | .hbm, ⟨30, _⟩ => ⟨S1x1x501, .i32⟩
  | .hbm, ⟨31, _⟩ => ⟨S16384x4x1, .i32⟩
  | .hbm, ⟨32, _⟩ => ⟨S16384x4x501, .i32⟩
  | .hbm, ⟨33, _⟩ => ⟨S16384x4x501, .i32⟩
  | .hbm, ⟨34, _⟩ => ⟨S16384x4x501, .i1⟩
  | .hbm, ⟨35, _⟩ => ⟨S_, .f32⟩
  | .hbm, ⟨36, _⟩ => ⟨S_, .f32⟩
  | .hbm, ⟨37, _⟩ => ⟨S16384x4x501, .f32⟩
  | .hbm, ⟨38, _⟩ => ⟨S16384x4x501, .f32⟩
  | .hbm, ⟨39, _⟩ => ⟨S16384x4x501, .f32⟩
  | .hbm, ⟨40, _⟩ => ⟨S_, .f32⟩
  | .hbm, ⟨41, _⟩ => ⟨S16384x4, .f32⟩
  | .hbm, ⟨42, _⟩ => ⟨S16384x4, .f32⟩
  | .hbm, ⟨43, _⟩ => ⟨S_, .f32⟩
  | .hbm, ⟨44, _⟩ => ⟨S16384x4, .f32⟩
  | .hbm, ⟨45, _⟩ => ⟨S16384x4, .f32⟩
  | .hbm, ⟨46, _⟩ => ⟨S16384x4, .f32⟩
  | .hbm, ⟨47, _⟩ => ⟨S_, .f32⟩
  | .hbm, ⟨48, _⟩ => ⟨S16384x4, .f32⟩
  | .hbm, ⟨49, _⟩ => ⟨S16384x4, .f32⟩
  | .hbm, ⟨50, _⟩ => ⟨S16384x4, .f32⟩
  | .hbm, ⟨51, _⟩ => ⟨S16384x4x501, .i32⟩
  | .hbm, ⟨52, _⟩ => ⟨S16384x4x501, .i32⟩
  | .hbm, ⟨53, _⟩ => ⟨S16384x4x501, .i1⟩
  | .hbm, ⟨54, _⟩ => ⟨S16384x4x1, .f32⟩
  | .hbm, ⟨55, _⟩ => ⟨S16384x4x501, .f32⟩
  | .hbm, ⟨56, _⟩ => ⟨S16384x4x501, .f32⟩
  | .hbm, ⟨57, _⟩ => ⟨S_, .f32⟩
  | .hbm, ⟨58, _⟩ => ⟨S4x501, .f32⟩
  | .hbm, ⟨59, _⟩ => ⟨S4x501, .f32⟩
  | .hbm, ⟨60, _⟩ => ⟨S1x4x501, .f32⟩
  | .hbm, ⟨61, _⟩ => ⟨S16384x4x501, .f32⟩
  | .hbm, ⟨62, _⟩ => ⟨S16384x4x501, .f32⟩
  | .hbm, ⟨63, _⟩ => ⟨S_, .f32⟩
  | .hbm, ⟨64, _⟩ => ⟨S16384x4, .f32⟩
  | .hbm, ⟨65, _⟩ => ⟨S_, .f32⟩
  | .hbm, ⟨66, _⟩ => ⟨S16384x4, .f32⟩
  | .hbm, ⟨67, _⟩ => ⟨S16384x4, .f32⟩
  | .hbm, ⟨68, _⟩ => ⟨S1x4, .f32⟩
  | .hbm, ⟨69, _⟩ => ⟨S16384x4, .f32⟩
  | .hbm, ⟨70, _⟩ => ⟨S16384x4, .f32⟩
  | .hbm, ⟨71, _⟩ => ⟨S16384x4, .f32⟩
  | .hbm, ⟨72, _⟩ => ⟨S16384x4, .f32⟩
  | .hbm, ⟨73, _⟩ => ⟨S_, .f32⟩
  | .hbm, ⟨74, _⟩ => ⟨S16384x4, .f32⟩
  | .hbm, ⟨75, _⟩ => ⟨S16384x4, .f32⟩
  | .hbm, ⟨76, _⟩ => ⟨S_, .f32⟩
  | .hbm, ⟨77, _⟩ => ⟨S16384x4, .f32⟩
  | .hbm, ⟨78, _⟩ => ⟨S16384x4, .f32⟩
  | _, _ => ⟨S16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_v4 : Ref sig .tc := ⟨.hbm, 16, rfl⟩
abbrev main_cst_3 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_c_4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_5 : Ref sig .tc := ⟨.hbm, 35, rfl⟩
abbrev main_cst_6 : Ref sig .tc := ⟨.hbm, 36, rfl⟩
abbrev main_call2_v0 : Ref sig .tc := ⟨.hbm, 37, rfl⟩
abbrev main_call2_v1 : Ref sig .tc := ⟨.hbm, 38, rfl⟩
abbrev main_v15 : Ref sig .tc := ⟨.hbm, 39, rfl⟩
abbrev main_cst_7 : Ref sig .tc := ⟨.hbm, 40, rfl⟩
abbrev main_v16 : Ref sig .tc := ⟨.hbm, 41, rfl⟩
abbrev main_v17 : Ref sig .tc := ⟨.hbm, 42, rfl⟩
abbrev main_cst_8 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_9 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call3_v0 : Ref sig .tc := ⟨.hbm, 55, rfl⟩
abbrev main_v28 : Ref sig .tc := ⟨.hbm, 56, rfl⟩
abbrev main_call4_cst : Ref sig .tc := ⟨.hbm, 57, rfl⟩
abbrev main_call4_v0 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_10 : Ref sig .tc := ⟨.hbm, 63, rfl⟩
abbrev main_v33 : Ref sig .tc := ⟨.hbm, 64, rfl⟩
abbrev main_cst_11 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_12 : Ref sig .tc := ⟨.hbm, 73, rfl⟩
abbrev main_v41 : Ref sig .tc := ⟨.hbm, 74, rfl⟩
abbrev main_v42 : Ref sig .tc := ⟨.hbm, 75, rfl⟩
abbrev main_cst_13 : Ref sig .tc := ⟨.hbm, 76, rfl⟩
abbrev main_v43 : Ref sig .tc := ⟨.hbm, 77, rfl⟩
abbrev main_v44 : Ref sig .tc := ⟨.hbm, 78, rfl⟩

abbrev nD : Nat := 1
abbrev τ : Topo := Topo.v7x

variable {F : FTy → Type} [FloatOps F]
-- ==== Proof.Setup.lean ====
/-
  The set-up the proof's modules share: the program as the launch theorem sees it, the resource algebra, the arrays the
  kernel moves, and the values it computes, written once for any float values.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipeline's rounds, the left factor of the right factor. -/
def EP : Emb UP (MT nD τ sig (HIx 1) (Elt F) ℕ UU ℕ) :=
  (Emb.inl : Emb UP (UP × Counters)).trans (embR (A := UH) (B := UP × Counters))

instance EP_landsIn : (EP : Emb UP 𝕄).LandsIn (upEmb : UEmb _ 𝕄) := by unfold EP; infer_instance

/-! ## The arrays the SparseCore kernel takes -/

/-- The transposed input, the two tables, and the kernel's output, as locations of device `d`. -/
abbrev xLoc (d : Dev nD) : Loc nD τ sig := (SparseCore.T d).loc main_v11
abbrev qLoc (d : Dev nD) : Loc nD τ sig := (SparseCore.T d).loc main_v10_1
abbrev wLoc (d : Dev nD) : Loc nD τ sig := (SparseCore.T d).loc main_v10_0
abbrev oLoc (d : Dev nD) : Loc nD τ sig := (SparseCore.T d).loc main_v12

/-! ## What the SparseCore kernel computes, element by element -/

variable [FloatOps F]

/-- The element clamped to `[-17, 8]`, moved by 17 and one step. -/
def shifted (x : F .f32) : F .f32 :=
  FloatOps.addf (FloatOps.subf (FloatOps.minimumf (FloatOps.maximumf x (Scalar.ofBits .f32 0xC1880000#32)) (Scalar.ofBits .f32 0x41000000#32))
    (Scalar.ofBits .f32 0xC1880000#32)) (Scalar.ofBits .f32 0x3D4CCCCD#32)

/-- The number of the segment the element lies in, kept within `0 … 500`. -/
def segment (x : F .f32) : BitVec 32 :=
  IntOp.minsi (IntOp.maxsi (FloatOps.fptosi 32 (FloatOps.divf (shifted x) (Scalar.ofBits .f32 0x3D4CCCCD#32))) 0#32) 500#32

/-- The value from segment number `k` and the two table entries: the logistic of `q + (shifted x - k·step)·w`. -/
def interp (x : F .f32) (k : BitVec 32) (q w : F .f32) : F .f32 :=
  FloatOps.divf (Scalar.ofBits .f32 0x3F800000#32)
    (FloatOps.addf (Scalar.ofBits .f32 0x3F800000#32)
      (FloatOps.exp (FloatOps.subf (Scalar.ofBits .f32 0x00000000#32)
        (FloatOps.addf q (FloatOps.mulf (FloatOps.subf (shifted x) (FloatOps.mulf (FloatOps.sitofp .f32 k) (Scalar.ofBits .f32 0x3D4CCCCD#32))) w)))))

/-- The table place of row `u`, segment `k`. -/
def tabIx (u : Fin 4) (k : BitVec 32) : S8x512.Idx := fun a => match a with
  | 0 => ⟨u.val, lt_trans u.isLt (by decide)⟩
  | 1 => ⟨k.toNat % 512, Nat.mod_lt _ (by decide)⟩

/-- The result at an element `x` of row `u`, from the tables `q` and `w`. -/
def cell (q w : S8x512.Idx → F .f32) (u : Fin 4) (x : F .f32) : F .f32 :=
  interp x (segment x) (q (tabIx u (segment x))) (w (tabIx u (segment x)))

/-- The whole output: each element by `cell` at its row. -/
def outFn {n : Nat} (q w : S8x512.Idx → F .f32) (x : (⟨2, ![4, n]⟩ : Shape).Idx → F .f32) : (⟨2, ![4, n]⟩ : Shape).Idx → F .f32 :=
  fun j => cell q w (j 0) (x j)

theorem segment_le (x : F .f32) : (segment x).toNat ≤ 500 := by
  unfold segment
  generalize (FloatOps.fptosi 32 (FloatOps.divf (shifted x) (Scalar.ofBits .f32 0x3D4CCCCD#32)) : BitVec 32) = k
  have h0 : (0#32 : BitVec 32).toInt = 0 := by decide
  have h5 : (500#32 : BitVec 32).toInt = 500 := by decide
  have h5' : (500#32 : BitVec 32).toNat = 500 := by decide
  have hk := BitVec.toInt_eq_toNat_cond k
  have hlt := k.isLt
  simp only [IntOp.minsi, IntOp.maxsi, BitVec.slt_eq_decide, decide_eq_true_eq, h0]
  by_cases h : (0 : ℤ) < k.toInt
  · rw [if_pos h, h5]
    by_cases h' : k.toInt < 500
    · rw [if_pos h']; split at hk <;> omega
    · rw [if_neg h', h5']
  · rw [if_neg h, h0, h5, if_pos (by decide)]; decide

/-- The printed vector of segment numbers, lane by lane. -/
theorem pay_segment (v : Vec F S1x16 .f32) (j : S16.Idx) :
    k1_pay5 v j = segment (v (Shape.reshapeEquiv shapeCasts_S1x16_S16 j)) := rfl

/-- The printed vector of results, lane by lane. -/
theorem pay_interp (v : Vec F S1x16 .f32) (k : IVec S16 32) (q w : Vec F S16 .f32) (j : S16.Idx) :
    k1_pay6 v k q w j = interp (v (Shape.reshapeEquiv shapeCasts_S1x16_S16 j)) (k j) (q j) (w j) := rfl

end Cert.Proof.Spline

end
-- ==== Proof.Trip.lean ====
/-
  One trip of the SparseCore kernel's inner loop — load sixteen elements of a row, find their segments, look the two
  tables up, store the sixteen results — run once, for every row and every trip.
-/
module

public import proofs.«01_k».proof.Proof.Setup

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- the kernel's memrefs as the body table passes them
local notation "sX" => (Memref.whole Cert.KernelIdeal.cc1_scratch0 : Memref Cert.KernelIdeal.sig Kind.scVector Space.vmem Cert.KernelIdeal.S4x512 EltTy.f32)
local notation "sQ" => (Memref.whole Cert.KernelIdeal.cc1_scratch1 : Memref Cert.KernelIdeal.sig Kind.scVector Space.vmem Cert.KernelIdeal.S8x512 EltTy.f32)
local notation "sW" => (Memref.whole Cert.KernelIdeal.cc1_scratch2 : Memref Cert.KernelIdeal.sig Kind.scVector Space.vmem Cert.KernelIdeal.S8x512 EltTy.f32)
local notation "sO" => (Memref.whole Cert.KernelIdeal.cc1_scratch3 : Memref Cert.KernelIdeal.sig Kind.scVector Space.vmem Cert.KernelIdeal.S4x512 EltTy.f32)

/-- The vector subcore that runs the task at grid point `L`. -/
abbrev cV (L : grid1.Coords) : Fin τ.nSC := (L 0).castLE hcore1
abbrev jV (L : grid1.Coords) : Fin τ.nSub := (L 1).castLE hsub1

/-- After `n` trips of row `u`: the result scratch holds the results of every row before `u` and of the first `16·n`
    elements of row `u`. -/
def Done (q w : S8x512.Idx → F .f32) (x o : S4x512.Idx → F .f32) (u n : ℕ) : Prop :=
  ∀ j : S4x512.Idx, (j 0).val < u ∨ (j 0).val = u ∧ (j 1).val < 16 * n → o j = outFn q w x j

theorem Done.next {q w : S8x512.Idx → F .f32} {x o : S4x512.Idx → F .f32} {u : ℕ} (h : Done q w x o u 32) : Done q w x o (u + 1) 0 :=
  fun j hj => h j (by have := (j 1).isLt; change (j 1).val < 512 at this; omega)

/-- The index vectors of a trip name places of the tables. -/
theorem lookup_inb (u : Fin 4) (k : IVec S16 32) (x : S16.Idx → F .f32) (hk : ∀ j, k j = segment (x j)) :
    ∀ a j, ((![broadcast S16 (BitVec.ofNat 32 u.val), k] : Fin 2 → IVec S16 32) a j).toNat < S8x512.size a := by
  intro a j
  match a with
  | 0 =>
    show (BitVec.ofNat 32 u.val).toNat < 8
    have := u.isLt
    rw [BitVec.toNat_ofNat]; omega
  | 1 =>
    show (k j).toNat < 512
    rw [hk]; exact lt_of_le_of_lt (segment_le _) (by decide)

/-- Reading a whole table through its whole rectangle is the table. -/
theorem read_q (f : S8x512.Idx → F .f32) (y : S8x512.Idx) : ((sQ).access (.whole S8x512)).read (Elt F) f y = f y := by
  show f ((Rect.whole S8x512).emb y) = f y
  congr 1; funext a; apply Fin.ext; show 0 + 1 * (y a).val = (y a).val; omega
theorem read_w (f : S8x512.Idx → F .f32) (y : S8x512.Idx) : ((sW).access (.whole S8x512)).read (Elt F) f y = f y := by
  show f ((Rect.whole S8x512).emb y) = f y
  congr 1; funext a; apply Fin.ext; show 0 + 1 * (y a).val = (y a).val; omega

theorem lookup_eq (f : Vec F S8x512 .f32) (u : Fin 4) (k : IVec S16 32) (h) (j : S16.Idx) (hk : (k j).toNat < 512) :
    loadIdx f (![broadcast S16 (BitVec.ofNat 32 u.val), k] : Fin 2 → IVec S16 32) h j = f (tabIx u (k j)) := by
  unfold loadIdx
  congr 1
  funext a
  apply Fin.ext
  match a with
  | 0 =>
    show (BitVec.ofNat 32 u.val).toNat = u.val
    have := u.isLt
    rw [BitVec.toNat_ofNat]; omega
  | 1 =>
    show (k j).toNat = (k j).toNat % 512
    omega

section
variable (d : Dev nD) (L : grid1.Coords)

/-- Storing at row `u`, columns `16·t … 16·t + 15`, what `cell` makes of the elements there extends what is done. -/
theorem done_store (u : Fin 4) (t : ℕ) (ix io : ∀ a, (![u.val, 16 * t] : Fin 2 → ℕ) a + S1x16.size a ≤ S4x512.size a)
    (x : S4x512.Idx → F .f32) (q w : S8x512.Idx → F .f32) (o : S4x512.Idx → F .f32) (hd : Done (F := F) q w x o u.val t) (p : FVec F S16 .f32)
    (hp : ∀ y : S16.Idx, p y = cell q w u ((sX).view.readAt (Elt F) (Rect.unit (s := S4x512) ![u.val, 16 * t] S1x16.size ix).toLoadRect x
      (Shape.reshapeEquiv shapeCasts_S1x16_S16 y))) :
    Done (F := F) q w x (((sO).access (Rect.unit (s := S4x512) ![u.val, 16 * t] S1x16.size io)).write (Elt F) o (shapeCast S1x16 p shapeCasts_S16_S1x16) Finset.univ)
      u.val (t + 1) := by
  intro j hj
  change (sO).view.read (Elt F) (((sO).view.slice (Rect.unit (s := S4x512) ![u.val, 16 * t] S1x16.size io)).write (Elt F) o (shapeCast S1x16 p shapeCasts_S16_S1x16) Finset.univ) j = _
  by_cases hm : j ∈ (Rect.unit (s := S4x512) ![u.val, 16 * t] S1x16.size io).set
  · obtain ⟨y, rfl⟩ := (Rect.unit (s := S4x512) ![u.val, 16 * t] S1x16.size io).exists_idx_of_mem hm
    refine (View.read_slice_write_emb (Val := Elt F) (v := (sO).view) (Rect.unit (s := S4x512) ![u.val, 16 * t] S1x16.size io) o _ (Finset.mem_univ y)).trans ?_
    refine (hp (Shape.reshapeEquiv shapeCasts_S16_S1x16 y)).trans ?_
    rw [Shape.reshapeEquiv_reshapeEquiv, Shape.reshapeEquiv_self]
    have hu : ((Rect.unit (s := S4x512) ![u.val, 16 * t] S1x16.size io).idx y 0 : Fin 4) = u := by
      apply Fin.ext
      have h := (y 0).isLt
      change (y 0).val < 1 at h
      show u.val + 1 * (y 0).val = u.val
      omega
    exact (congrArg (fun a : Fin 4 => cell q w a (x ((Rect.unit (s := S4x512) ![u.val, 16 * t] S1x16.size io).idx y))) hu).symm
  · rw [View.read_slice_write_of_not_mem _ _ _ _ (by rwa [Rect.map_emb_univ])]
    refine hd j ?_
    rcases hj with hj | ⟨h0, h1⟩
    · exact .inl hj
    · refine .inr ⟨h0, ?_⟩
      by_contra hc
      refine hm (Rect.mem_set_unit.mpr fun a => ?_)
      match a with
      | 0 => exact ⟨le_of_eq h0.symm, by rw [h0]; exact Nat.lt_succ_self _⟩
      | 1 => exact ⟨by show 16 * t ≤ (j 1).val; omega, by show (j 1).val < 16 * t + 16; omega⟩

/-- One trip as the kernel prints it, for any row, load and store place, and side condition on the index vectors. -/
def tripProg (c : Fin τ.nSC) (s : Fin τ.nSub) (ox oo : Fin 2 → ℕ)
    (ix : ∀ a, ox a + S1x16.size a ≤ S4x512.size a) (io : ∀ a, oo a + S1x16.size a ≤ S4x512.size a)
    (v : IVec S16 32) (chk : IVec S16 32 → IVec S16 32 → Prop) (dec : ∀ v k, Decidable (chk v k))
    (i1 i2 : ∀ v k, chk v k → ∀ a x, ((![v, k] : Fin 2 → IVec S16 32) a x).toNat < S8x512.size a) :
    Prog (TpuEff nD τ sig (Elt F) Λ₀ (.scVector c s)) Unit := do
  let v20_ld : Vec F S1x16 .f32 ← Prog.lift (.load sX (Rect.unit (s := S4x512) ox S1x16.size ix).toLoadRect (View.loadsAt_vmem h_S1x16))
  have v35 : IVec S16 32 := k1_pay5 v20_ld
  have hw : chk v v35 := (← Prog.lift (TpuEff.assume (chk v v35) (dec v v35))).down
  let v44 : Vec F S16 .f32 ← SparseCore.vectorLoadIdx sQ ![v, v35] (i1 v v35 hw) (View.loads_vmem h_S8x512)
  let v45 : Vec F S16 .f32 ← SparseCore.vectorLoadIdx sW ![v, v35] (i2 v v35 hw) (View.loads_vmem h_S8x512)
  let _ : Vec F S1x16 .f32 ← Prog.lift (.load sO (Rect.unit (s := S4x512) oo S1x16.size io).toLoadRect (View.loadsAt_vmem h_S1x16))
  Prog.lift (.store sO (Rect.unit (s := S4x512) oo S1x16.size io) (shapeCast S1x16 (k1_pay6 v20_ld v35 v44 v45) shapeCasts_S16_S1x16) Finset.univ (View.stores_vmem_bits_univ h_S1x16 rfl) (.inl rfl))
  pure ⟨⟩

/-- One trip at row `u`, trip `t`: from the loaded input and tables and a result scratch done up to this trip, to one
    done up to the next. -/
theorem wp_trip (u : Fin 4) (t : ℕ) (ht : t < 32) (ox oo : Fin 2 → ℕ) (hox : ox = ![u.val, 16 * t]) (hoo : oo = ![u.val, 16 * t])
    (ix : ∀ a, ox a + S1x16.size a ≤ S4x512.size a) (io : ∀ a, oo a + S1x16.size a ≤ S4x512.size a)
    (v : IVec S16 32) (hv : v = broadcast S16 (BitVec.ofNat 32 u.val))
    (chk : IVec S16 32 → IVec S16 32 → Prop) (dec : ∀ v k, Decidable (chk v k))
    (hchk : ∀ v k, (∀ a x, ((![v, k] : Fin 2 → IVec S16 32) a x).toNat < S8x512.size a) → chk v k)
    (i1 i2 : ∀ v k, chk v k → ∀ a x, ((![v, k] : Fin 2 → IVec S16 32) a x).toNat < S8x512.size a)
    (x : Buf (Elt F) ((sX).view.loc (V d (cV L) (jV L)))) (q : Buf (Elt F) ((sQ).view.loc (V d (cV L) (jV L))))
    (w : Buf (Elt F) ((sW).view.loc (V d (cV L) (jV L)))) (o : Buf (Elt F) ((sO).view.loc (V d (cV L) (jV L))))
    (hd : Done (F := F) q w x o u.val t) :
    iprop(((sX).view.loc (V d (cV L) (jV L)) ↦{fullShare} x) ∗ ((sQ).view.loc (V d (cV L) (jV L)) ↦{fullShare} q)
        ∗ ((sW).view.loc (V d (cV L) (jV L)) ↦{fullShare} w) ∗ ((sO).view.loc (V d (cV L) (jV L)) ↦{fullShare} o))
      ⊢ wp (M := 𝕄) frame (wpE (defs₀ (F := F)) 𝒱₀ (V d (cV L) (jV L)) none) Set.univ
          (tripProg (cV L) (jV L) ox oo ix io v chk dec i1 i2)
          fun _ => iprop(((sX).view.loc (V d (cV L) (jV L)) ↦{fullShare} x) ∗ ((sQ).view.loc (V d (cV L) (jV L)) ↦{fullShare} q)
            ∗ ((sW).view.loc (V d (cV L) (jV L)) ↦{fullShare} w)
            ∗ ∃ o', ⌜Done (F := F) q w x o' u.val (t + 1)⌝ ∗ ((sO).view.loc (V d (cV L) (jV L)) ↦{fullShare} o')) := by
  subst hox hoo hv
  unfold tripProg
  simp only [Prog.lift, Prog.bind_op, Prog.bind_ret, Prog.pure_eq_ret]
  iintro ⟨Hx, Hq, Hw, Ho⟩
  iapply (wp_load 𝒱₀ (V d (cV L) (jV L)) none Set.univ (m := sX) (S := Finset.univ) (Finset.subset_univ _)) $$ Hx
  iintro Hx
  have hseg : ∀ j, k1_pay5 ((sX).view.readAt (Elt F) (Rect.unit (s := S4x512) ![u.val, 16 * t] S1x16.size ix).toLoadRect x) j
      = segment (((sX).view.readAt (Elt F) (Rect.unit (s := S4x512) ![u.val, 16 * t] S1x16.size ix).toLoadRect x) (Shape.reshapeEquiv shapeCasts_S1x16_S16 j)) :=
    fun j => pay_segment _ j
  have hin := lookup_inb u _ _ hseg
  rw [wp_assume_of _ _ _ _ (hchk _ _ hin)]
  iapply (SparseCore.wp_vectorLoadIdx 𝒱₀ (V d (cV L) (jV L)) none Set.univ (base := sQ) (S := Finset.univ) (q := fullShare) (Finset.subset_univ _)) $$ Hq
  iintro Hq
  iapply (SparseCore.wp_vectorLoadIdx 𝒱₀ (V d (cV L) (jV L)) none Set.univ (base := sW) (S := Finset.univ) (q := fullShare) (Finset.subset_univ _)) $$ Hw
  iintro Hw
  iapply (wp_load 𝒱₀ (V d (cV L) (jV L)) none Set.univ (m := sO) (S := Finset.univ) (Finset.subset_univ _)) $$ Ho
  iintro Ho
  iapply (wp_store 𝒱₀ (V d (cV L) (jV L)) none Set.univ (m := sO) (r := Rect.unit (s := S4x512) ![u.val, 16 * t] S1x16.size io) (Mk := Finset.univ) (S := Finset.univ) (Finset.subset_univ _)) $$ Ho
  iintro Ho
  rw [wp_ret]; imodintro
  isplitl [Hx]; · iexact Hx
  isplitl [Hq]; · iexact Hq
  isplitl [Hw]; · iexact Hw
  iexists _
  isplitr
  rotate_left
  · iexact Ho
  ipureintro
  exact done_store u t ix io x q w o hd _ (fun y => by
    rw [pay_interp, lookup_eq _ u _ hin _ (by rw [hseg]; exact lt_of_le_of_lt (segment_le _) (by decide)),
      lookup_eq _ u _ hin _ (by rw [hseg]; exact lt_of_le_of_lt (segment_le _) (by decide)), hseg]
    exact congrArg₂ (interp _ _) (read_q q _) (read_w w _))

end

end Cert.Proof.Spline

end
-- ==== Proof.Tile.lean ====
/-
  The SparseCore kernel's task on one vector subcore, run once at a symbolic grid point: three copies in, four rows of
  trips, one copy out.
-/
module

public import proofs.«01_k».proof.Proof.Trip

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok)

variable {F : FTy → Type} [FloatOps F]

local notation "𝕄" => MT nD τ sig (HIx 1) (Elt F) ℕ UU ℕ

local notation "xV" => (Memref.whole Cert.KernelIdeal.main_v11_scv : Memref Cert.KernelIdeal.sig Kind.scVector Space.hbm Cert.KernelIdeal.S4x16384 EltTy.f32)
local notation "qV" => (Memref.whole Cert.KernelIdeal.main_v10_1_scv : Memref Cert.KernelIdeal.sig Kind.scVector Space.hbm Cert.KernelIdeal.S8x512 EltTy.f32)
local notation "wV" => (Memref.whole Cert.KernelIdeal.main_v10_0_scv : Memref Cert.KernelIdeal.sig Kind.scVector Space.hbm Cert.KernelIdeal.S8x512 EltTy.f32)
local notation "oV" => (Memref.whole Cert.KernelIdeal.main_v12_scv : Memref Cert.KernelIdeal.sig Kind.scVector Space.hbm Cert.KernelIdeal.S4x16384 EltTy.f32)
local notation "sX" => (Memref.whole Cert.KernelIdeal.cc1_scratch0 : Memref Cert.KernelIdeal.sig Kind.scVector Space.vmem Cert.KernelIdeal.S4x512 EltTy.f32)
local notation "sQ" => (Memref.whole Cert.KernelIdeal.cc1_scratch1 : Memref Cert.KernelIdeal.sig Kind.scVector Space.vmem Cert.KernelIdeal.S8x512 EltTy.f32)
local notation "sW" => (Memref.whole Cert.KernelIdeal.cc1_scratch2 : Memref Cert.KernelIdeal.sig Kind.scVector Space.vmem Cert.KernelIdeal.S8x512 EltTy.f32)
local notation "sO" => (Memref.whole Cert.KernelIdeal.cc1_scratch3 : Memref Cert.KernelIdeal.sig Kind.scVector Space.vmem Cert.KernelIdeal.S4x512 EltTy.f32)

/-! ## The columns a subcore works on -/

section
variable (d : Dev nD) (L : grid1.Coords)

/-- The columns of the input the subcore fetches and the columns of the output it writes, as the program slices them. -/
abbrev xK : Memref sig .scVector .hbm S4x512 .f32 := (xV).slice (Rect.unit (s := S4x16384) (k1_off1 L) S4x512.size (k1_off1_inb L)) (fun _ => rfl)
abbrev oK : Memref sig .scVector .hbm S4x512 .f32 := (oV).slice (Rect.unit (s := S4x16384) (k1_off10 L) S4x512.size (k1_off10_inb L)) (fun _ => rfl)

/-- The subcore's number among the 32. -/
def wid : Fin 32 := ⟨2 * (L 1).val + (L 0).val, by
  have h0 : (L 0).val < 2 := (L 0).isLt
  have h1 : (L 1).val < 16 := (L 1).isLt
  omega⟩

/-! ## The subcore's own semaphores and scratch buffers -/

abbrev dcell (s : DmaSem sig) : GSem nD τ sig := (V d (cV L) (jV L), .dma s)

theorem own_dcell (s : DmaSem sig) (h : (SemLoc.dma s : SemLoc sig).isScoped .scVector = true) :
    dcell d L s ∈ SparseCore.Cfg.ownCells (V d (cV L) (jV L)) := (mem_ownCells (g := dcell d L s)).mpr ⟨rfl, h⟩

theorem dcell_ne {s t : DmaSem sig} (h : (SemLoc.dma s : SemLoc sig) ≠ .dma t) : dcell d L s ≠ dcell d L t :=
  fun e => h (Prod.mk.inj e).2

theorem ownSems0_V :
    (SparseCore.Cfg.ownSems0 (V d (cV L) (jV L)) : sProp 𝕄)
      = iprop(semVal (dcell d L cc1_scratch4.sem) 0 ∗ semVal (dcell d L cc1_scratch5.sem) 0 ∗ semVal (dcell d L cc1_scratch6.sem) 0 ∗ semVal (dcell d L cc1_scoped0.sem) 0
          ∗ bigSep (((((SparseCore.Cfg.ownCells (V d (cV L) (jV L))).erase (dcell d L cc1_scratch4.sem)).erase (dcell d L cc1_scratch5.sem)).erase (dcell d L cc1_scratch6.sem)).erase (dcell d L cc1_scoped0.sem))
              fun g => semVal g 0) := by
  unfold SparseCore.Cfg.ownSems0
  rw [SparseCore.bigSep_erase' (own_dcell d L cc1_scratch4.sem (by decide)),
    SparseCore.bigSep_erase' (Finset.mem_erase.mpr ⟨dcell_ne d L (by decide), own_dcell d L cc1_scratch5.sem (by decide)⟩),
    SparseCore.bigSep_erase' (Finset.mem_erase.mpr ⟨dcell_ne d L (by decide), Finset.mem_erase.mpr ⟨dcell_ne d L (by decide),
      own_dcell d L cc1_scratch6.sem (by decide)⟩⟩),
    SparseCore.bigSep_erase' (Finset.mem_erase.mpr ⟨dcell_ne d L (by decide), Finset.mem_erase.mpr ⟨dcell_ne d L (by decide),
      Finset.mem_erase.mpr ⟨dcell_ne d L (by decide), own_dcell d L cc1_scoped0.sem (by decide)⟩⟩⟩)]

abbrev bref (b : Ref sig .scVector) : DevRef τ sig := (Proc.scVector (cV L) (jV L)).devRef b

theorem bref_ne {b b' : Ref sig .scVector} (h : b ≠ b') : bref L b ≠ bref L b' := fun e => h (Proc.devRef_injective _ e)

theorem ownBufs_V :
    (SparseCore.Cfg.ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((SparseCore.Cfg.ownRefs (τ := τ) (.scVector (cV L) (jV L))).erase (bref L cc1_scratch0)).erase (bref L cc1_scratch1)).erase (bref L cc1_scratch2)).erase (bref L cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := bref L cc1_scratch0) rfl)).trans ?_
  rw [SparseCore.bigSep_erase' (Finset.mem_erase.mpr ⟨bref_ne L (by decide), SparseCore.Cfg.mem_ownRefs_of_owner (p := Proc.scVector (cV L) (jV L)) (b := bref L cc1_scratch1) rfl⟩),
    SparseCore.bigSep_erase' (Finset.mem_erase.mpr ⟨bref_ne L (by decide), Finset.mem_erase.mpr ⟨bref_ne L (by decide), SparseCore.Cfg.mem_ownRefs_of_owner (p := Proc.scVector (cV L) (jV L)) (b := bref L cc1_scratch2) rfl⟩⟩),
    SparseCore.bigSep_erase' (Finset.mem_erase.mpr ⟨bref_ne L (by decide), Finset.mem_erase.mpr ⟨bref_ne L (by decide),
      Finset.mem_erase.mpr ⟨bref_ne L (by decide), SparseCore.Cfg.mem_ownRefs_of_owner (p := Proc.scVector (cV L) (jV L)) (b := bref L cc1_scratch3) rfl⟩⟩⟩)]

/-! ## A row of trips -/

/-- After `n` trips of row `u`: the input scratch and the two tables as loaded, the result scratch done up to there. -/
def rowInv (x : Buf (Elt F) ((sX).view.loc (V d (cV L) (jV L)))) (q : Buf (Elt F) ((sQ).view.loc (V d (cV L) (jV L))))
    (w : Buf (Elt F) ((sW).view.loc (V d (cV L) (jV L)))) (u n : ℕ) : sProp 𝕄 :=
  iprop(((sX).view.loc (V d (cV L) (jV L)) ↦{fullShare} x) ∗ ((sQ).view.loc (V d (cV L) (jV L)) ↦{fullShare} q)
    ∗ ((sW).view.loc (V d (cV L) (jV L)) ↦{fullShare} w)
    ∗ ∃ o, ⌜Done (F := F) q w x o u n⌝ ∗ ((sO).view.loc (V d (cV L) (jV L)) ↦{fullShare} o))

theorem rowInv_next (x q w) {n : ℕ} (u v : ℕ) (hn : n = 32) (hv : v = u + 1) :
    (rowInv (F := F) d L x q w u n) ⊢ rowInv (F := F) d L x q w v 0 := by
  subst hn hv
  unfold rowInv
  iintro ⟨Hx, Hq, Hw, %o, %ho, Ho⟩
  isplitl [Hx]; · iexact Hx
  isplitl [Hq]; · iexact Hq
  isplitl [Hw]; · iexact Hw
  iexists o; isplitr
  · ipureintro; exact ho.next
  · iexact Ho

theorem rowInv_start (x q w) (o : Buf (Elt F) ((sO).view.loc (V d (cV L) (jV L)))) :
    iprop(((sX).view.loc (V d (cV L) (jV L)) ↦{fullShare} x) ∗ ((sQ).view.loc (V d (cV L) (jV L)) ↦{fullShare} q)
      ∗ ((sW).view.loc (V d (cV L) (jV L)) ↦{fullShare} w) ∗ ((sO).view.loc (V d (cV L) (jV L)) ↦{fullShare} o))
      ⊢ rowInv (F := F) d L x q w 0 0 := by
  unfold rowInv
  iintro ⟨Hx, Hq, Hw, Ho⟩
  isplitl [Hx]; · iexact Hx
  isplitl [Hq]; · iexact Hq
  isplitl [Hw]; · iexact Hw
  iexists o; isplitr
  · ipureintro; intro j hj; omega
  · iexact Ho

theorem rowInv_done (x q w) : rowInv (F := F) d L x q w 4 0
    ⊢ iprop(((sX).view.loc (V d (cV L) (jV L)) ↦{fullShare} x) ∗ ((sQ).view.loc (V d (cV L) (jV L)) ↦{fullShare} q)
      ∗ ((sW).view.loc (V d (cV L) (jV L)) ↦{fullShare} w) ∗ ((sO).view.loc (V d (cV L) (jV L)) ↦{fullShare} outFn q w x)) := by
  unfold rowInv
  iintro ⟨Hx, Hq, Hw, %o, %ho, Ho⟩
  obtain rfl : o = outFn q w x := funext fun j => ho j (.inl (j 0).isLt)
  isplitl [Hx]; · iexact Hx
  isplitl [Hq]; · iexact Hq
  isplitl [Hw]; · iexact Hw
  iexact Ho

theorem row_step (u : Fin 4) (t : ℕ) (ht : t < 32) (ox oo : Fin 2 → ℕ) (hox : ox = ![u.val, 16 * t]) (hoo : oo = ![u.val, 16 * t])
    (ix : ∀ a, ox a + S1x16.size a ≤ S4x512.size a) (io : ∀ a, oo a + S1x16.size a ≤ S4x512.size a)
    (v : IVec S16 32) (hv : v = broadcast S16 (BitVec.ofNat 32 u.val))
    (chk : IVec S16 32 → IVec S16 32 → Prop) (dec : ∀ v k, Decidable (chk v k))
    (hchk : ∀ v k, (∀ a x, ((![v, k] : Fin 2 → IVec S16 32) a x).toNat < S8x512.size a) → chk v k)
    (i1 i2 : ∀ v k, chk v k → ∀ a x, ((![v, k] : Fin 2 → IVec S16 32) a x).toNat < S8x512.size a)
    (x : Buf (Elt F) ((sX).view.loc (V d (cV L) (jV L)))) (q : Buf (Elt F) ((sQ).view.loc (V d (cV L) (jV L))))
    (w : Buf (Elt F) ((sW).view.loc (V d (cV L) (jV L)))) :
    rowInv (F := F) d L x q w u.val t
      ⊢ wp (M := 𝕄) frame (wpE (defs₀ (F := F)) 𝒱₀ (V d (cV L) (jV L)) none) Set.univ
          (tripProg (cV L) (jV L) ox oo ix io v chk dec i1 i2)
          fun _ => rowInv (F := F) d L x q w u.val (t + 1) := by
  unfold rowInv
  iintro ⟨Hx, Hq, Hw, %o, %ho, Ho⟩
  iapply (wp_trip (F := F) d L u t ht ox oo hox hoo ix io v hv chk dec hchk i1 i2 x q w o ho)
  isplitl [Hx]; · iexact Hx
  isplitl [Hq]; · iexact Hq
  isplitl [Hw]; · iexact Hw
  iexact Ho

/-- A scratch buffer as a whole memref addresses it (the form the executor reads). -/
theorem pts_sX (f : Buf (Elt F) ((V d (cV L) (jV L)).loc cc1_scratch0)) :
    ((V d (cV L) (jV L)).loc cc1_scratch0 ↦{fullShare} f : sProp 𝕄) = (sX).view.loc (V d (cV L) (jV L)) ↦{fullShare} f := rfl
theorem pts_sQ (f : Buf (Elt F) ((V d (cV L) (jV L)).loc cc1_scratch1)) :
    ((V d (cV L) (jV L)).loc cc1_scratch1 ↦{fullShare} f : sProp 𝕄) = (sQ).view.loc (V d (cV L) (jV L)) ↦{fullShare} f := rfl
theorem pts_sW (f : Buf (Elt F) ((V d (cV L) (jV L)).loc cc1_scratch2)) :
    ((V d (cV L) (jV L)).loc cc1_scratch2 ↦{fullShare} f : sProp 𝕄) = (sW).view.loc (V d (cV L) (jV L)) ↦{fullShare} f := rfl
theorem pts_sO (f : Buf (Elt F) ((V d (cV L) (jV L)).loc cc1_scratch3)) :
    ((V d (cV L) (jV L)).loc cc1_scratch3 ↦{fullShare} f : sProp 𝕄) = (sO).view.loc (V d (cV L) (jV L)) ↦{fullShare} f := rfl

/-- What a copy of a whole scratch buffer lands is what it carried. -/
theorem land_sX (f g : Buf (Elt F) ((V d (cV L) (jV L)).loc cc1_scratch0)) :
    ((sX).view.loc (V d (cV L) (jV L)) ↦{fullShare} ((sX).view.write (Elt F) f g Finset.univ) : sProp 𝕄)
      = (sX).view.loc (V d (cV L) (jV L)) ↦{fullShare} g := by
  rw [show (sX).view.write (Elt F) f g Finset.univ = g from View.write_whole_univ _ _ _]
theorem land_sQ (f g : Buf (Elt F) ((V d (cV L) (jV L)).loc cc1_scratch1)) :
    ((sQ).view.loc (V d (cV L) (jV L)) ↦{fullShare} ((sQ).view.write (Elt F) f g Finset.univ) : sProp 𝕄)
      = (sQ).view.loc (V d (cV L) (jV L)) ↦{fullShare} g := by
  rw [show (sQ).view.write (Elt F) f g Finset.univ = g from View.write_whole_univ _ _ _]
theorem land_sW (f g : Buf (Elt F) ((V d (cV L) (jV L)).loc cc1_scratch2)) :
    ((sW).view.loc (V d (cV L) (jV L)) ↦{fullShare} ((sW).view.write (Elt F) f g Finset.univ) : sProp 𝕄)
      = (sW).view.loc (V d (cV L) (jV L)) ↦{fullShare} g := by
  rw [show (sW).view.write (Elt F) f g Finset.univ = g from View.write_whole_univ _ _ _]

/-- What a whole task takes and returns: its columns of the input and a read share of each table; and its columns of the
    output. -/
def tileIn (xv : Buf (Elt F) (xLoc d)) (qv : Buf (Elt F) (qLoc d)) (wv : Buf (Elt F) (wLoc d)) : sProp 𝕄 :=
  iprop(((xK L).view.loc (V d (cV L) (jV L)) ↦[(xK L).view.set]{fullShare} xv)
    ∗ ((qV).view.loc (V d (cV L) (jV L)) ↦{shareTok fullShare 32 (wid L)} qv)
    ∗ ((wV).view.loc (V d (cV L) (jV L)) ↦{shareTok fullShare 32 (wid L)} wv))
def tileOut (ov : Buf (Elt F) (oLoc d)) : sProp 𝕄 :=
  iprop((oK L).view.loc (V d (cV L) (jV L)) ↦[(oK L).view.set]{fullShare} ov)

theorem off_eq : k1_off10 L = k1_off1 L := (k1_off10_eq L).trans (k1_off1_eq L).symm

/-- The columns a task reads and the columns it writes are the same. -/
theorem emb_eq (y : S4x512.Idx) : ((oK L).view.emb y : S4x16384.Idx) = (xK L).view.emb y := by
  funext a; apply Fin.ext
  show k1_off10 L a + 1 * (y a).val = k1_off1 L a + 1 * (y a).val
  rw [off_eq]

/-- The whole output at a place of the task's columns is the result there of the input the task fetched. -/
theorem outFn_cols (xv : Buf (Elt F) (xLoc d)) (qv : Buf (Elt F) (qLoc d)) (wv : Buf (Elt F) (wLoc d)) (y : S4x512.Idx) :
    outFn (F := F) (n := 512) qv wv ((xK L).view.read (Elt F) xv) y = outFn (F := F) (n := 16384) qv wv xv ((oK L).view.emb y) := by
  show cell qv wv (y 0) (xv ((xK L).view.emb y)) = cell qv wv (((oK L).view.emb y : S4x16384.Idx) 0) (xv ((oK L).view.emb y : S4x16384.Idx))
  rw [emb_eq]
  congr 1
  apply Fin.ext
  show (y 0).val = k1_off1 L 0 + 1 * (y 0).val
  rw [k1_off1_eq]
  show (y 0).val = 0 + 1 * (y 0).val
  omega

/-- What the copy out lands on the task's columns is `outFn` of the whole input there. -/
theorem land_out (xv : Buf (Elt F) (xLoc d)) (qv : Buf (Elt F) (qLoc d)) (wv : Buf (Elt F) (wLoc d)) (ov : Buf (Elt F) (oLoc d))
    (g : S4x512.Idx → F .f32) (hg : g = outFn (F := F) (n := 512) qv wv ((xK L).view.read (Elt F) xv)) :
    ((oK L).view.loc (V d (cV L) (jV L)) ↦[(oK L).view.set]{fullShare} ((oK L).view.writes (Elt F) ov [⟨Rect.whole S4x512, g⟩]) : sProp 𝕄)
      = (oK L).view.loc (V d (cV L) (jV L)) ↦[(oK L).view.set]{fullShare} (outFn (F := F) (n := 16384) qv wv xv) := by
  refine pointsTo_congr fun i hi => ?_
  obtain ⟨y, -, rfl⟩ := Finset.mem_map.mp hi
  have h := congrFun (View.read_writes_whole (Val := Elt F) (oK L).view ov g) y
  rw [View.read_apply, cast_eq] at h
  exact h.trans ((congrFun hg y).trans (outFn_cols d L xv qv wv y))

theorem tile_body (hF : (K (F := F)).Facts) (O : CellTallies nD τ sig (HIx 1)) (W : Waits sig (HIx 1)) (hO : ∀ g, O g none = 0)
    (xv : Buf (Elt F) (xLoc d)) (qv : Buf (Elt F) (qLoc d)) (wv : Buf (Elt F) (wLoc d)) (ov : Buf (Elt F) (oLoc d)) :
    iprop(levAts (K (F := F)).L (K (F := F)).lev ∗ emp ∗ (tileIn d L xv qv wv ∗ tileOut d L ov)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L xV (Memref.isWhole_whole _) qV (Memref.isWhole_whole _) wV (Memref.isWhole_whole _) oV (Memref.isWhole_whole _)
            sX (Memref.isWhole_whole _) sQ (Memref.isWhole_whole _) sW (Memref.isWhole_whole _) sO (Memref.isWhole_whole _)
            cc1_scratch4 cc1_scratch5 cc1_scratch6 cc1_scoped0)
          fun _ => iprop((tileIn d L xv qv wv ∗ tileOut d L (outFn qv wv xv))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  simp only [k1_part1_eq_skeleton]; unfold k1_part1_skel
  simp only [bind_assoc, pure_bind]
  rw [(K (F := F)).scopedBufs_V hF d (cV L) (jV L), SparseCore.Cfg.scopedSems0_V (Val := Elt F) d (cV L) (jV L), ownSems0_V, ownBufs_V]
  unfold tileIn tileOut
  iintro ⟨#Hlv, -, ⟨⟨Hx, Hq, Hw⟩, Ho⟩, ⟨⟨%fx, Hsx⟩, ⟨%fq, Hsq⟩, ⟨%fw, Hsw⟩, ⟨%fo, Hso⟩, Hbufs⟩, ⟨Hc4, Hc5, Hc6, Hc0, Hsems⟩, HO⟩
  ihave Hmw := ((K (F := F)).mayWaits_none (thr := V d (cV L) (jV L)) hO) $$ Hlv
  ihave Hsx' := (Entails.of_eq (pts_sX (F := F) d L fx)) $$ Hsx
  ihave Hsq' := (Entails.of_eq (pts_sQ (F := F) d L fq)) $$ Hsq
  ihave Hsw' := (Entails.of_eq (pts_sW (F := F) d L fw)) $$ Hsw
  ihave Hso' := (Entails.of_eq (pts_sO (F := F) d L fo)) $$ Hso
  sl_exec
  rw [show tile_body.sl.dma0 d L xv = (xK L).view.read (Elt F) xv from rfl, show tile_body.sl.dma0_1 d qv = qv from rfl,
    show tile_body.sl.dma0_2 d wv = wv from rfl]
  ihave Hsx := (Entails.of_eq (land_sX (F := F) d L fx ((xK L).view.read (Elt F) xv))) $$ Hsx'
  ihave Hsq := (Entails.of_eq (land_sQ (F := F) d L fq qv)) $$ Hsq'
  ihave Hsw := (Entails.of_eq (land_sW (F := F) d L fw wv)) $$ Hsw'
  ihave HI := (rowInv_start (F := F) d L ((xK L).view.read (Elt F) xv) qv wv fo) $$ [Hsx Hsq Hsw Hso']
  · isplitl [Hsx]; · iexact Hsx
    isplitl [Hsq]; · iexact Hsq
    isplitl [Hsw]; · iexact Hsw
    iexact Hso'
  sl_for (fun n _ => rowInv (F := F) d L ((xK L).view.read (Elt F) xv) qv wv 0 n) $$ [HI]
  case region =>
    intro k _
    exact row_step d L 0 k.val k.isLt (k1_off2 k) (k1_off3 k) (k1_off2_eq k) (k1_off3_eq k) (k1_off2_inb k) (k1_off3_inb k) _ rfl
      k1_chk1 k1_chk1.dec (fun _ _ h => ⟨h, h⟩) k1_idx1_inb k1_idx2_inb _ _ _
  · iexact HI
  iintro %_ HI
  ihave HI := (rowInv_next (F := F) d L _ _ _ 0 1 (n := Scf.trips k1_t1_loop.lb k1_t1_loop.ub k1_t1_loop.st) (by decide) rfl) $$ HI
  sl_for (fun n _ => rowInv (F := F) d L ((xK L).view.read (Elt F) xv) qv wv 1 n) $$ [HI]
  case region =>
    intro k _
    exact row_step d L 1 k.val k.isLt (k1_off4 k) (k1_off5 k) (k1_off4_eq k) (k1_off5_eq k) (k1_off4_inb k) (k1_off5_inb k) _ rfl
      k1_chk2 k1_chk2.dec (fun _ _ h => ⟨h, h⟩) k1_idx3_inb k1_idx4_inb _ _ _
  · iexact HI
  iintro %_ HI
  ihave HI := (rowInv_next (F := F) d L _ _ _ 1 2 (n := Scf.trips k1_t2_loop.lb k1_t2_loop.ub k1_t2_loop.st) (by decide) rfl) $$ HI
  sl_for (fun n _ => rowInv (F := F) d L ((xK L).view.read (Elt F) xv) qv wv 2 n) $$ [HI]
  case region =>
    intro k _
    exact row_step d L 2 k.val k.isLt (k1_off6 k) (k1_off7 k) (k1_off6_eq k) (k1_off7_eq k) (k1_off6_inb k) (k1_off7_inb k) _ rfl
      k1_chk3 k1_chk3.dec (fun _ _ h => ⟨h, h⟩) k1_idx5_inb k1_idx6_inb _ _ _
  · iexact HI
  iintro %_ HI
  ihave HI := (rowInv_next (F := F) d L _ _ _ 2 3 (n := Scf.trips k1_t3_loop.lb k1_t3_loop.ub k1_t3_loop.st) (by decide) rfl) $$ HI
  sl_for (fun n _ => rowInv (F := F) d L ((xK L).view.read (Elt F) xv) qv wv 3 n) $$ [HI]
  case region =>
    intro k _
    exact row_step d L 3 k.val k.isLt (k1_off8 k) (k1_off9 k) (k1_off8_eq k) (k1_off9_eq k) (k1_off8_inb k) (k1_off9_inb k) _ rfl
      k1_chk4 k1_chk4.dec (fun _ _ h => ⟨h, h⟩) k1_idx7_inb k1_idx8_inb _ _ _
  · iexact HI
  iintro %_ HI
  ihave HI := (rowInv_next (F := F) d L _ _ _ 3 4 (n := Scf.trips k1_t4_loop.lb k1_t4_loop.ub k1_t4_loop.st) (by decide) rfl) $$ HI
  ihave HI := (rowInv_done (F := F) d L _ _ _) $$ HI
  icases HI with ⟨Hsx, Hsq, Hsw, Hso⟩
  sl_exec
  ihave Ho := (Entails.of_eq (land_out (F := F) d L xv qv wv ov (tile_body.sl.dma0_3 d L xv qv wv) rfl)) $$ Ho
  rw [wp_ret]; imodintro
  isplitl [Hx Hq Hw Ho]
  · isplitr [Ho]
    · isplitl [Hx]; · iexact Hx
      isplitl [Hq]; · iexact Hq
      iexact Hw
    · iexact Ho
  isplitl [Hsx Hsq Hsw Hso Hbufs]
  · isplitl [Hsx]; · iexists _; iexact Hsx
    isplitl [Hsq]; · iexists _; iexact Hsq
    isplitl [Hsw]; · iexists _; iexact Hsw
    isplitl [Hso]; · iexists _; iexact Hso
    iexact Hbufs
  isplitl [Hc4 Hc5 Hc6 Hc0 Hsems]
  · isplitl [Hc4]; · iexact Hc4
    isplitl [Hc5]; · iexact Hc5
    isplitl [Hc6]; · iexact Hc6
    isplitl [Hc0]; · iexact Hc0
    iexact Hsems
  iexists _; isplitr; rotate_left
  · iexact HO
  ipureintro; intro p hp
  simp only [Finset.mem_insert] at hp
  rcases hp with rfl | rfl | rfl | rfl | hp
  · exact .inr rfl
  · exact .inr rfl
  · exact .inr rfl
  · exact .inr rfl
  · exact .inl hp

end

end Cert.Proof.Spline

end
-- ==== Proof.Handoff.lean ====
/-
  What the call of the SparseCore kernel hands each vector subcore and gets back: the columns the subcore works on, and a
  read share of each table. The kernel as the launch theorem asks for it, and the whole arrays dealt out and joined again.
-/
module

public import proofs.«01_k».proof.Proof.Tile

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig (HIx 1) (Elt F) ℕ UU ℕ

/-- A grid point from its two coordinates. -/
def coordsV (c : Fin (grid1.bound 0)) (s : Fin (grid1.bound 1)) : grid1.Coords :=
  fun | 0 => c | 1 => s | ⟨_ + 2, h⟩ => absurd h (Nat.not_lt.2 (Nat.le_add_left _ _))

/-- The grid point of a SparseCore and a subcore number. -/
abbrev pt (p : Fin 2 × Fin 16) : grid1.Coords := coordsV p.1 p.2

section
variable (xv : (d : Dev nD) → Buf (Elt F) (xLoc d)) (qv : (d : Dev nD) → Buf (Elt F) (qLoc d)) (wv : (d : Dev nD) → Buf (Elt F) (wLoc d))
  (ov : (d : Dev nD) → Buf (Elt F) (oLoc d))

/-- What the task at a grid point is handed, and what it hands back. -/
def give (d : Dev nD) (L : grid1.Coords) : sProp 𝕄 := iprop(tileIn d L (xv d) (qv d) (wv d) ∗ tileOut d L (ov d))
def back (d : Dev nD) (L : grid1.Coords) : sProp 𝕄 := iprop(tileIn d L (xv d) (qv d) (wv d) ∗ tileOut d L (outFn (qv d) (wv d) (xv d)))

instance give_storable (d L) : BI.Storable (upEmb : UEmb _ 𝕄) (give xv qv wv ov d L) := by
  unfold give tileIn tileOut; infer_instance
instance back_storable (d L) : BI.Storable (upEmb : UEmb _ 𝕄) (back xv qv wv d L) := by
  unfold back tileIn tileOut; infer_instance

/-- What a SparseCore is handed and hands back: what its sixteen tasks are. -/
def giveAll (d : Dev nD) (c : Fin 2) : sProp 𝕄 := bigSep Finset.univ fun i : Fin 16 => give xv qv wv ov d (pt (c, i))
def backAll (d : Dev nD) (c : Fin 2) : sProp 𝕄 := bigSep Finset.univ fun i : Fin 16 => back xv qv wv d (pt (c, i))

theorem bigSep_storable {I : Type} (s : Finset I) (Φ : I → sProp 𝕄) [h : ∀ i, BI.Storable (upEmb : UEmb _ 𝕄) (Φ i)] :
    BI.Storable (upEmb : UEmb _ 𝕄) (bigSep s Φ) := by
  classical
  induction s using Finset.induction_on with
  | empty => exact BI.Storable.emp _
  | insert a s ha ih => rw [bigSep_insert ha]; exact BI.Storable.sep _ _ _

instance giveAll_storable (d c) : BI.Storable (upEmb : UEmb _ 𝕄) (giveAll xv qv wv ov d c) := bigSep_storable _ _
instance backAll_storable (d c) : BI.Storable (upEmb : UEmb _ 𝕄) (backAll xv qv wv d c) := bigSep_storable _ _

theorem nCore_eq (q : Fin 1) : (K (F := F)).nCore q = 2 := by rw [Subsingleton.elim q 0]
theorem nSub_eq (q : Fin 1) : (K (F := F)).nSub q = 16 := by rw [Subsingleton.elim q 0]

theorem bigSep_cores (Φ : Fin 2 → sProp 𝕄) :
    (bigSep Finset.univ fun c : Fin ((K (F := F)).nCore 0) => Φ (Fin.cast (nCore_eq 0) c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)

/-- The call's handshakes: to each SparseCore what its tasks take, to each task its own. -/
def P : (K (F := F)).Pay (nD := nD) (Val := Elt F) (Name := ℕ) (U := UU) where
  st := fun q d c => giveAll xv qv wv ov d (Fin.cast (nCore_eq q) c)
  dn := fun q d c => backAll xv qv wv d (Fin.cast (nCore_eq q) c)
  go := fun q d c i => give xv qv wv ov d (pt (Fin.cast (nCore_eq q) c, Fin.cast (nSub_eq q) i))
  td := fun q d c i => back xv qv wv d (pt (Fin.cast (nCore_eq q) c, Fin.cast (nSub_eq q) i))
  x := fun _ _ => iprop(emp)

instance P_storable : (P (F := F) xv qv wv ov).IsStorable where
  st q d c := giveAll_storable xv qv wv ov d _
  dn q d c := backAll_storable xv qv wv d _
  go q d c i := give_storable xv qv wv ov d _
  td q d c i := back_storable xv qv wv d _

/-! ## The launch theorem's obligations -/

theorem defs₀_vector (c : Fin τ.nSC) (s : Fin τ.nSub) :
    defs₀ (F := F) (.scVector c s) 1 ()
      = SparseCore.onTile hcore1 hsub1 (fun c s => cc1__sc_body (coordsV c s)
          (Memref.whole main_v11_scv) (Memref.isWhole_whole _) (Memref.whole main_v10_1_scv) (Memref.isWhole_whole _)
          (Memref.whole main_v10_0_scv) (Memref.isWhole_whole _) (Memref.whole main_v12_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scratch6 cc1_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task does what the call asks of it. -/
theorem tileObl : (K (F := F)).TileObl (D (F := F)) 𝒱 (P xv qv wv ov) v₀ 0 := by
  intro d c i O W hO _ _
  simp only [show (P xv qv wv ov).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) launchFacts O W hO (xv d) (qv d) (wv d) (ov d)).trans (wp_mono frame _ _ fun _ => obl_post)

/-- A SparseCore's operands are its tasks', and its results theirs. -/
theorem vecSplit : (K (F := F)).VecSplit' (P xv qv wv ov) 0 := by
  intro d c
  show giveAll xv qv wv ov d (Fin.cast (nCore_eq 0) c) ⊢ |={Set.univ}=> iprop(
      (bigSep Finset.univ fun i : Fin ((K (F := F)).nSub 0) => give xv qv wv ov d (pt (Fin.cast (nCore_eq 0) c, Fin.cast (nSub_eq 0) i)))
      ∗ ((bigSep Finset.univ fun i : Fin ((K (F := F)).nSub 0) => back xv qv wv d (pt (Fin.cast (nCore_eq 0) c, Fin.cast (nSub_eq 0) i)))
        -∗ backAll xv qv wv d (Fin.cast (nCore_eq 0) c)))
  rw [bigSep_tasks (F := F) (fun i => give xv qv wv ov d (pt (Fin.cast (nCore_eq 0) c, i))),
    bigSep_tasks (F := F) (fun i => back xv qv wv d (pt (Fin.cast (nCore_eq 0) c, i)))]
  unfold giveAll backAll
  iintro H; imodintro
  isplitl [H]; · iexact H
  iintro H; iexact H

/-! ## The arrays dealt to the tasks -/

/-- The columns of the task at a grid point. -/
def cols (p : Fin 2 × Fin 16) : Finset S4x16384.Idx := (Rect.unit (s := S4x16384) (k1_off1 (pt p)) S4x512.size (k1_off1_inb (pt p))).set

theorem mem_cols (p : Fin 2 × Fin 16) (i : S4x16384.Idx) : i ∈ cols p ↔ (i 1).val / 512 = 2 * p.2.val + p.1.val := by
  unfold cols
  rw [Rect.mem_set_unit, k1_off1_eq]
  have h0 : (i 0).val < 4 := (i 0).isLt
  constructor
  · intro h
    have h1 := h 1
    change 1024 * p.2.val + 512 * p.1.val ≤ (i 1).val ∧ (i 1).val < 1024 * p.2.val + 512 * p.1.val + 512 at h1
    omega
  · intro h a
    match a with
    | 0 => exact ⟨Nat.zero_le _, by show (i 0).val < 0 + 4; omega⟩
    | 1 =>
      show 1024 * p.2.val + 512 * p.1.val ≤ (i 1).val ∧ (i 1).val < 1024 * p.2.val + 512 * p.1.val + 512
      omega

theorem cols_disjoint : ∀ p ∈ (Finset.univ : Finset (Fin 2 × Fin 16)), ∀ p' ∈ (Finset.univ : Finset (Fin 2 × Fin 16)), p ≠ p' → Disjoint (cols p) (cols p') :=
  fun p _ p' _ h => Finset.disjoint_left.mpr fun i hi hi' => h (by
    rw [mem_cols] at hi hi'
    have := p.1.isLt; have := p'.1.isLt
    exact Prod.ext (Fin.ext (by omega)) (Fin.ext (by omega)))

theorem cols_cover : (Finset.univ : Finset (Fin 2 × Fin 16)).biUnion cols = Finset.univ := by
  refine Finset.eq_univ_of_forall fun i => Finset.mem_biUnion.mpr ?_
  have h1 : (i 1).val < 16384 := (i 1).isLt
  exact ⟨(⟨(i 1).val / 512 % 2, by omega⟩, ⟨(i 1).val / 1024, by omega⟩), Finset.mem_univ _, (mem_cols _ _).mpr (by
    show (i 1).val / 512 = 2 * ((i 1).val / 1024) + (i 1).val / 512 % 2
    omega)⟩

theorem set_xK (d : Dev nD) (p : Fin 2 × Fin 16) : (xK (pt p)).view.set = cols p := by
  show ((View.whole (main_v11_scv : Ref sig .scVector)).slice (Rect.unit (s := S4x16384) (k1_off1 (pt p)) S4x512.size (k1_off1_inb (pt p)))).set = _
  rw [View.set_slice]; exact Finset.map_refl
theorem set_oK (d : Dev nD) (p : Fin 2 × Fin 16) : (oK (pt p)).view.set = cols p := by
  show ((View.whole (main_v12_scv : Ref sig .scVector)).slice (Rect.unit (s := S4x16384) (k1_off10 (pt p)) S4x512.size (k1_off10_inb (pt p)))).set = _
  rw [View.set_slice]
  refine (Finset.map_refl).trans ?_
  ext i
  rw [mem_cols, Rect.mem_set_unit, off_eq, ← mem_cols]
  exact (Rect.mem_set_unit).symm

/-- The input whole is every task's columns of it. -/
theorem deal_x (d : Dev nD) (f : Buf (Elt F) (xLoc d)) :
    (xLoc d ↦{fullShare} f : sProp 𝕄) = bigSep Finset.univ fun p : Fin 2 × Fin 16 =>
      (xK (pt p)).view.loc (V d (cV (pt p)) (jV (pt p))) ↦[(xK (pt p)).view.set]{fullShare} f := by
  rw [bigSep_congr fun p _ => show ((xK (pt p)).view.loc (V d (cV (pt p)) (jV (pt p))) ↦[(xK (pt p)).view.set]{fullShare} f : sProp 𝕄)
    = xLoc d ↦[cols p]{fullShare} f by rw [set_xK d]]
  rw [← pointsTo_biUnion Finset.univ (ℓ := xLoc d) cols cols_disjoint, cols_cover]; try rfl
/-- The output whole is every task's columns of it. -/
theorem deal_o (d : Dev nD) (f : Buf (Elt F) (oLoc d)) :
    (oLoc d ↦{fullShare} f : sProp 𝕄) = bigSep Finset.univ fun p : Fin 2 × Fin 16 => tileOut d (pt p) f := by
  unfold tileOut
  rw [bigSep_congr fun p _ => show ((oK (pt p)).view.loc (V d (cV (pt p)) (jV (pt p))) ↦[(oK (pt p)).view.set]{fullShare} f : sProp 𝕄)
    = oLoc d ↦[cols p]{fullShare} f by rw [set_oK d]]
  rw [← pointsTo_biUnion Finset.univ (ℓ := oLoc d) cols cols_disjoint, cols_cover]; try rfl

/-- The grid points numbered as the tasks number themselves. -/
def widEquiv : Fin 2 × Fin 16 ≃ Fin 32 := (Equiv.prodComm _ _).trans finProdFinEquiv

theorem widEquiv_eq (p : Fin 2 × Fin 16) : widEquiv p = wid (pt p) := by
  apply Fin.ext
  show p.1.val + 2 * p.2.val = 2 * p.2.val + p.1.val
  omega

/-- A table whole is what is kept of it and every task's read share. -/
theorem deal_tok (ℓ : Loc nD τ sig) (f : Buf (Elt F) ℓ) :
    (ℓ ↦{fullShare} f : sProp 𝕄) ⊣⊢ iprop((ℓ ↦{shareDrop fullShare 32} f)
      ∗ bigSep Finset.univ fun p : Fin 2 × Fin 16 => ℓ ↦{shareTok fullShare 32 (wid (pt p))} f) := by
  have h : (bigSep Finset.univ fun p : Fin 2 × Fin 16 => (ℓ ↦{shareTok fullShare 32 (wid (pt p))} f : sProp 𝕄))
      = bigSep Finset.univ fun i : Fin 32 => (ℓ ↦{shareTok fullShare 32 i} f : sProp 𝕄) := by
    rw [bigSep_congr fun p _ => show (ℓ ↦{shareTok fullShare 32 (wid (pt p))} f : sProp 𝕄) = ℓ ↦{shareTok fullShare 32 (widEquiv p)} f by rw [widEquiv_eq]]
    exact (bigSep_univ_equiv widEquiv (fun i : Fin 32 => (ℓ ↦{shareTok fullShare 32 i} f : sProp 𝕄))).symm
  rw [h]
  exact Transfers.pointsTo_toks fullShare 32

/-- What is kept of the tables during the call. -/
def kept (d : Dev nD) : sProp 𝕄 := iprop((qLoc d ↦{shareDrop fullShare 32} qv d) ∗ (wLoc d ↦{shareDrop fullShare 32} wv d))

/-- The four arrays make what the call takes and what is kept; -/
theorem deal (d : Dev nD) :
    iprop((xLoc d ↦{fullShare} xv d) ∗ (qLoc d ↦{fullShare} qv d) ∗ (wLoc d ↦{fullShare} wv d) ∗ (oLoc d ↦{fullShare} ov d))
      ⊢ (iprop((bigSep Finset.univ fun c : Fin ((K (F := F)).nCore 0) => giveAll xv qv wv ov d (Fin.cast (nCore_eq 0) c)) ∗ kept qv wv d) : sProp 𝕄) := by
  rw [bigSep_cores (F := F) (giveAll xv qv wv ov d)]
  unfold giveAll
  rw [← bigSep_univ_prod (fun p : Fin 2 × Fin 16 => give xv qv wv ov d (pt p))]
  unfold give tileIn kept
  rw [bigSep_sep', bigSep_sep', bigSep_sep', deal_x, deal_o]
  iintro ⟨Hx, Hq, Hw, Ho⟩
  ihave Hq := ((deal_tok (F := F) (qLoc d) (qv d)).1) $$ Hq
  icases Hq with ⟨Hqd, Hqt⟩
  ihave Hw := ((deal_tok (F := F) (wLoc d) (wv d)).1) $$ Hw
  icases Hw with ⟨Hwd, Hwt⟩
  isplitr [Hqd Hwd]
  · isplitr [Ho]
    · isplitl [Hx]; · iexact Hx
      isplitl [Hqt]; · iexact Hqt
      iexact Hwt
    · iexact Ho
  · isplitl [Hqd] <;> iassumption

/-- what the call hands back and what was kept make the four arrays again, the output at the result. -/
theorem undeal (d : Dev nD) :
    (iprop((bigSep Finset.univ fun c : Fin ((K (F := F)).nCore 0) => backAll xv qv wv d (Fin.cast (nCore_eq 0) c)) ∗ kept qv wv d) : sProp 𝕄)
      ⊢ iprop((xLoc d ↦{fullShare} xv d) ∗ (qLoc d ↦{fullShare} qv d) ∗ (wLoc d ↦{fullShare} wv d)
        ∗ (oLoc d ↦{fullShare} (outFn (F := F) (n := 16384) (qv d) (wv d) (xv d)))) := by
  rw [bigSep_cores (F := F) (backAll xv qv wv d)]
  unfold backAll
  rw [← bigSep_univ_prod (fun p : Fin 2 × Fin 16 => back xv qv wv d (pt p))]
  unfold back tileIn kept
  rw [bigSep_sep', bigSep_sep', bigSep_sep', deal_x, deal_o]
  iintro ⟨⟨⟨Hx, Hqt, Hwt⟩, Ho⟩, Hqd, Hwd⟩
  isplitl [Hx]; · iexact Hx
  isplitl [Hqd Hqt]
  · iapply ((deal_tok (F := F) (qLoc d) (qv d)).2)
    isplitl [Hqd]; · iexact Hqd
    iexact Hqt
  isplitl [Hwd Hwt]
  · iapply ((deal_tok (F := F) (wLoc d) (wv d)).2)
    isplitl [Hwd]; · iexact Hwd
    iexact Hwt
  iexact Ho

end

end Cert.Proof.Spline

end
-- ==== Proof.Prep.lean ====
/-
  The TensorCore kernel that prepares the two tables: its body run on the staging buffers, and its region of the whole
  program, entered with the TensorCore's debts to the SparseCores outstanding.
-/
module

public import proofs.«01_k».proof.Proof.Setup
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.Value
public import Idealize.ShloMosaic.Lib.Tactic

@[expose] public section

noncomputable section

namespace Cert.Proof.Spline

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev held1 (c : Dev nD) {sp : Space} {S : Shape} {e : EltTy} (M : Memref sig .tc sp S e) (f : Bf (F := F) c M) : sProp 𝕄 :=
  M.view.loc (c : Thread nD τ) ↦{fullShare} f

/-- A load of a whole buffer reads its contents; -/
theorem load_whole {sp : Space} {n m : Nat} {e : EltTy} (v : View sig .tc sp ⟨2, ![n, m]⟩ e)
    (inb : ∀ a, (![0, 0] : Fin 2 → ℕ) a + (⟨2, ![n, m]⟩ : Shape).size a ≤ (⟨2, ![n, m]⟩ : Shape).size a) (f : v.ty.Contents (Elt F)) :
    v.readAt (Elt F) (Rect.unit (s := ⟨2, ![n, m]⟩) ![0, 0] (⟨2, ![n, m]⟩ : Shape).size inb).toLoadRect f = v.read (Elt F) f := by
  funext i
  show v.read (Elt F) f _ = _
  refine congrArg (v.read (Elt F) f) (funext fun a => Fin.ext ?_)
  show (![0, 0] : Fin 2 → ℕ) a + 1 * (i a).val = (i a).val
  fin_cases a <;> simp

/-- and what a store of a whole buffer leaves reads the value stored. -/
theorem store_whole {sp : Space} {n m : Nat} {e : EltTy} (v : View sig .tc sp ⟨2, ![n, m]⟩ e)
    (inb : ∀ a, (![0, 0] : Fin 2 → ℕ) a + (⟨2, ![n, m]⟩ : Shape).size a ≤ (⟨2, ![n, m]⟩ : Shape).size a) (f : v.ty.Contents (Elt F))
    (x : (⟨2, ![n, m]⟩ : Shape).Idx → Elt F e) :
    v.read (Elt F) (v.writes (Elt F) f [⟨Rect.unit (s := ⟨2, ![n, m]⟩) ![0, 0] (⟨2, ![n, m]⟩ : Shape).size inb, x⟩]) = x := by
  funext i
  have h := View.read_writes_cons_emb v f (Rect.unit (s := ⟨2, ![n, m]⟩) ![0, 0] (⟨2, ![n, m]⟩ : Shape).size inb) x [] i
  have e1 : (Rect.unit (s := ⟨2, ![n, m]⟩) ![0, 0] (⟨2, ![n, m]⟩ : Shape).size inb).emb i = i := funext fun a => Fin.ext (by
    show (![0, 0] : Fin 2 → ℕ) a + 1 * (i a).val = (i a).val
    fin_cases a <;> simp)
  rw [e1] at h
  exact h

/-- The body, from the four staging buffers held whole: the two inputs stay, the outputs take the two tables' values. -/
theorem prep_body (c : Dev nD) (f0 : Bf (F := F) c (stage0_0 0)) (f1 : Bf (F := F) c (stage0_1 0)) (f2 : Bf (F := F) c (stage0_2 0)) (f3 : Bf (F := F) c (stage0_3 0))
    (E : Set ℕ) (Q : PUnit → sProp 𝕄) :
    iprop(held1 c (stage0_0 0) f0 ∗ held1 c (stage0_1 0) f1 ∗ held1 c (stage0_2 0) f2 ∗ held1 c (stage0_3 0) f3
        ∗ (iprop(held1 c (stage0_0 0) f0 ∗ held1 c (stage0_1 0) f1 ∗ held1 c (stage0_2 0) (k0_pay1 (F := F) f0) ∗ held1 c (stage0_3 0) (k0_pay2 (F := F) f0 f1)) -∗ Q ⟨⟩))
      ⊢ wp frame (wpE (defs₀ (F := F)) 𝒱₀ (c : Thread nD τ) none) E
          (cc0__prep_body (stage0_0 0) (hstage0_0 0) (stage0_1 0) (hstage0_1 0) (stage0_2 0) (hstage0_2 0) (stage0_3 0) (hstage0_3 0)) Q := by
  iintro ⟨H0, H1, H2, H3, Hk⟩
  sl_exec!
  sl_step
  have e0 : View.readAt (Elt F) (stage0_0 0).view (Rect.unit (s := S8x512) ![0, 0] S8x512.size inb_S8x512_S8x512_0_0).toLoadRect f0 = f0 :=
    (load_whole (F := F) (n := 8) (m := 512) (View.whole cc0_stg0_0) _ f0).trans (View.read_whole ..)
  have e1 : View.readAt (Elt F) (stage0_1 0).view (Rect.unit (s := S8x1) ![0, 0] S8x1.size inb_S8x1_S8x1_0_0).toLoadRect f1 = f1 :=
    (load_whole (F := F) (n := 8) (m := 1) (View.whole cc0_stg1_0) _ f1).trans (View.read_whole ..)
  have h2 : (stage0_2 0).view.writes (Elt F) (stage0_2 0).view.junk (prep_body.sl.H2_1 c f0) = k0_pay1 (F := F) f0 := by
    unfold prep_body.sl.H2_1
    rw [e0]
    generalize k0_pay1 (F := F) f0 = x
    exact (View.read_whole ..).symm.trans (store_whole (F := F) (n := 8) (m := 512) (View.whole cc0_stg2_0) _ _ x)
  have h3 : (stage0_3 0).view.writes (Elt F) (stage0_3 0).view.junk (prep_body.sl.H3_1 c f0 f1) = k0_pay2 (F := F) f0 f1 := by
    unfold prep_body.sl.H3_1
    rw [e0, e1]
    generalize k0_pay2 (F := F) f0 f1 = x
    exact (View.read_whole ..).symm.trans (store_whole (F := F) (n := 8) (m := 512) (View.whole cc0_stg3_0) _ _ x)
  ihave H2' := (Entails.of_eq (congrArg (held1 c (stage0_2 0)) h2)) $$ H2
  ihave H3' := (Entails.of_eq (congrArg (held1 c (stage0_3 0)) h3)) $$ H3
  iapply Hk
  isplitl [H0]; · iexact H0
  isplitl [H1]; · iexact H1
  isplitl [H2']; · iexact H2'
  iexact H3'

/-! ## The proof data, at an entry valuation -/

variable (V : (c : Dev nD) → (b : Ref sig .tc) → Buf (Elt F) ((c : Thread nD τ).loc b))

/-- The two inputs as staged. -/
abbrev stgV (c : Dev nD) : (cfg0.win 0).block.Idx → Elt F (cfg0.win 0).elt := ((cfg0.win 0).blk t0_0).view.read (Elt F) (V c main_v4)
abbrev stgB (c : Dev nD) : (cfg0.win 1).block.Idx → Elt F (cfg0.win 1).elt := ((cfg0.win 1).blk t0_0).view.read (Elt F) (V c main_v9)

/-- The first call of the SparseCores stands for the bound of what has been waited for. -/
abbrev lo : ℕ := 8 * SparseCore.Cfg.Blocks.fst (Q := 1) (N := 1) 0

/-- The proof data: the arrays at the valuation; after the body the inputs' buffers as fetched and the outputs' at the tables;
    the core owes what the calls of the SparseCores will take of it. -/
def dat (c : Dev nD) : Dat τ (Elt F) (HIx 1) ℕ UU ℕ cfg0 c where
  A w := V c (Pipeline.arrRef spec0 w)
  after w _ := match w with
    | ⟨0, _⟩ => stgV V c
    | ⟨1, _⟩ => stgB V c
    | ⟨2, _⟩ => k0_pay1 (F := F) (stgV V c)
    | ⟨3, _⟩ => k0_pay2 (F := F) (stgV V c) (stgB V c)
  Φ _ := iprop(emp)
  q _ := fullShare
  owed _ := (K (F := F)).Otc c 0
  recorded _ := {p | (K (F := F)).lev (T c, p.1) p.2 ≤ lo}

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before_v (c : Dev nD) (d : (cfg0.win 0).block.Idx → Elt F (cfg0.win 0).elt) : (dat V c).before 0 t0_0 d = stgV V c := by
  unfold Dat.before; rw [if_pos (by decide)]; rfl
theorem before_b (c : Dev nD) (d : (cfg0.win 1).block.Idx → Elt F (cfg0.win 1).elt) : (dat V c).before 1 t0_0 d = stgB V c := by
  unfold Dat.before; rw [if_pos (by decide)]; rfl

theorem body_obligation (c : Dev nD) : BodyObligation (dat V c) (defs₀ (F := F)) 𝒱₀ none Set.univ := fun t => by
  obtain rfl := fin_N0 t
  rw [bigSep_W0, bigSep_W0]
  simp only [owns_whole_eq]
  rw [show (dat V c).Φ t0_0.castSucc = iprop(emp) from rfl, show (dat V c).Φ t0_0.succ = iprop(emp) from rfl,
    show (dat V c).owesAt none t0_0.succ = (dat V c).owesAt none t0_0.castSucc from rfl]
  iintro ⟨HΦ, Howes, ⟨%d0, %f0, %hf0, H0⟩, ⟨%d1, %f1, %hf1, H1⟩, ⟨%d2, %f2, -, H2⟩, ⟨%d3, %f3, -, H3⟩⟩
  rw [before_v] at hf0
  rw [before_b] at hf1
  subst hf0 hf1
  iapply (prep_body (F := F) c (stgV V c) (stgB V c) f2 f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]

/-! ## The region -/

/-- The one block of each window is its whole array. -/
theorem emb_v (i) : ((cfg0.win 0).blk t0_0).view.emb i = i := by
  funext a
  apply Fin.ext
  show 0 * _ + 1 * (i a).val = (i a).val
  omega
theorem emb_b (i) : ((cfg0.win 1).blk t0_0).view.emb i = i := by
  funext a
  apply Fin.ext
  show 0 * _ + 1 * (i a).val = (i a).val
  omega
theorem emb_w (i) : ((cfg0.win 2).blk t0_0).view.emb i = i := by
  funext a
  apply Fin.ext
  show 0 * _ + 1 * (i a).val = (i a).val
  omega
theorem emb_q (i) : ((cfg0.win 3).blk t0_0).view.emb i = i := by
  funext a
  apply Fin.ext
  show 0 * _ + 1 * (i a).val = (i a).val
  omega

theorem stgV_eq (c : Dev nD) : stgV V c = V c main_v4 := funext fun i => congrArg (V c main_v4) (emb_v i)
theorem stgB_eq (c : Dev nD) : stgB V c = V c main_v9 := funext fun i => congrArg (V c main_v9) (emb_b i)

theorem arr_w (c : Dev nD) : (dat V c).arrAt 2 cfg0.N = k0_pay1 (F := F) (V c main_v4) := by
  refine Dat.arrAt_eq_of_cover _ _ _ (fun t ht => ?_) fun i => ⟨t0_0, flush0_2 t0_0, ?_⟩
  · obtain rfl := fin_N0 t
    rw [← stgV_eq V c]
    generalize hx : k0_pay1 (F := F) (stgV V c) = x
    have e : (dat V c).flushed 2 t0_0 = x := hx
    rw [e]
    exact funext fun i => (congrArg x (emb_w i)).symm
  · rw [← emb_w i]; exact View.emb_mem_set _ _

theorem arr_q (c : Dev nD) : (dat V c).arrAt 3 cfg0.N = k0_pay2 (F := F) (V c main_v4) (V c main_v9) := by
  refine Dat.arrAt_eq_of_cover _ _ _ (fun t ht => ?_) fun i => ⟨t0_0, flush0_3 t0_0, ?_⟩
  · obtain rfl := fin_N0 t
    rw [← stgV_eq V c, ← stgB_eq V c]
    generalize hx : k0_pay2 (F := F) (stgV V c) (stgB V c) = x
    have e : (dat V c).flushed 3 t0_0 = x := hx
    rw [e]
    exact funext fun i => (congrArg x (emb_q i)).symm
  · rw [← emb_q i]; exact View.emb_mem_set _ _

theorem Otc_none (c : Dev nD) (g : GSem nD τ sig) : (K (F := F)).Otc c 0 g none = 0 := by
  by_contra h
  have := (K (F := F)).lev_of_Otc_pos (Nat.pos_of_ne_zero h)
  have e : (K (F := F)).lev g none = 0 := rfl
  omega

variable (Vp : (c : Dev nD) → (b : Ref sig .tc) → Buf (Elt F) ((c : Thread nD τ).loc b))

/-- The TensorCore's debts to the SparseCores before their call, and what it has waited for. -/
abbrev tcOwes (c : Dev nD) : sProp 𝕄 := iprop(∃ W, ⌜(K (F := F)).WBelow (T c) W lo⌝ ∗ owes (T c) ((K (F := F)).Otc c 0) W)

set_option backward.isDefEq.respectTransparency.types false in
/-- The region, from every unscoped buffer at `V` to the same at `Vp`, which has the tables and is `V` elsewhere. -/
def reg (hF : (K (F := F)).Facts) (hw : ∀ c, Vp c main_v10_0 = k0_pay1 (F := F) (V c main_v4)) (hq : ∀ c, Vp c main_v10_1 = k0_pay2 (F := F) (V c main_v4) (V c main_v9))
    (hne : ∀ c (b : Ref sig .tc), b ≠ main_v10_0 → b ≠ main_v10_1 → Vp c b = V c b) :
    Pipeline.RegionSeg (pcfgs (F := F)) adm (pdats V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro _ _ _ _ _ fun w s t => (K (F := F)).mayWait_none _ (Otc_none c)
  pre c := iprop(unscopedBufs c (V c) ∗ tcOwes c)
  post c := iprop(unscopedBufs c (Vp c) ∗ tcOwes c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) (launch0).win (launch0).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = iprop(emp) from rfl]
    iintro ⟨-, -, -⟩; iempintro
  hout c := by
    rw [Pipeline.ownSems0_none, show (pdats V 0 c).Φ (Fin.last _) = iprop(emp) from rfl]
    iintro -
    isplitr; · iempintro
    isplitr; · iempintro
    iapply (Entails.of_eq (scopedRest0_eq (Val := Elt F) c).symm); iempintro
  hexit c := by
    have hjoin := Pipeline.unscopedBufs_of_arrays (p := 0) (pcfgs (F := F)) adm (Ix := HIx 1) (Name := ℕ) (U := UU) (Lvl := ℕ) (launch0).win (launch0).arr_whole c
      (pdats V) ((pdats V 0 c).share_full fun _ => rfl) (V c) (Vp c) ((pdats V 0 c).arrAt · cfg0.N)
      (fun w => by
        fin_cases w
        · exact ((pdats V 0 c).arrAt_in 0 rfl _).trans (hne c main_v4 (by decide) (by decide)).symm
        · exact ((pdats V 0 c).arrAt_in 1 rfl _).trans (hne c main_v9 (by decide) (by decide)).symm
        · exact (arr_w V c).trans (hw c).symm
        · exact (arr_q V c).trans (hq c).symm)
      (fun b hb => hne c b (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof.Spline

end
-- ==== Proof.Values.lean ====
/-
  The program's operations outside the two kernels, and what every array holds after each step of the program, from any
  launch memory.
-/
module

public import proofs.«01_k».proof.Proof.Handoff
public import proofs.«01_k».proof.Proof.Prep

@[expose] public section

noncomputable section

namespace Cert.Proof.Spline

open Cert.KernelIdeal Cert.KernelIdeal.Gen

open Idealize.ShloMosaic Idealize.ShloMosaic.TcCoe Idealize.ShloMosaic.StableHlo
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The operations around the two calls -/

/-- What runs before the first call: the two paddings. -/
def preOps : List (HloOp τ sig (Elt F)) :=
  [ nullary main_cst (constant S_ .f32 0x00000000#32),
    unary main_cst main_v0 (broadcastInDim S8x512 ![] bcast_S_S8x512 : (⟨S_, .f32⟩ : BufTy).Contents (Elt F) → (⟨S8x512, .f32⟩ : BufTy).Contents (Elt F)),
    nullary main_c (constantI S_ 32 0#32),
    unary main_c main_v1 (broadcastInDim S1 ![] bcast_S_S1 : (⟨S_, .i32⟩ : BufTy).Contents (Elt F) → (⟨S1, .i32⟩ : BufTy).Contents (Elt F)),
    nullary main_c_0 (constantI S_ 32 0#32),
    unary main_c_0 main_v2 (broadcastInDim S1 ![] bcast_S_S1 : (⟨S_, .i32⟩ : BufTy).Contents (Elt F) → (⟨S1, .i32⟩ : BufTy).Contents (Elt F)),
    binary main_v1 main_v2 main_v3 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v0 main_v3 main_arg1 main_v4 ((fun x i u => Host.scatter scatter_S8x512_S2_S4x501_01_n_01_0 (fun _ b => b) x i u) : (⟨S8x512, .f32⟩ : BufTy).Contents (Elt F) → (⟨S2, .i32⟩ : BufTy).Contents (Elt F) → (⟨S4x501, .f32⟩ : BufTy).Contents (Elt F) → (⟨S8x512, .f32⟩ : BufTy).Contents (Elt F)),
    nullary main_cst_1 (constant S_ .f32 0x00000000#32),
    unary main_cst_1 main_v5 (broadcastInDim S8x1 ![] bcast_S_S8x1 : (⟨S_, .f32⟩ : BufTy).Contents (Elt F) → (⟨S8x1, .f32⟩ : BufTy).Contents (Elt F)),
    nullary main_c_2 (constantI S_ 32 0#32),
    unary main_c_2 main_v6 (broadcastInDim S1 ![] bcast_S_S1 : (⟨S_, .i32⟩ : BufTy).Contents (Elt F) → (⟨S1, .i32⟩ : BufTy).Contents (Elt F)),
    nullary main_c_3 (constantI S_ 32 0#32),
    unary main_c_3 main_v7 (broadcastInDim S1 ![] bcast_S_S1 : (⟨S_, .i32⟩ : BufTy).Contents (Elt F) → (⟨S1, .i32⟩ : BufTy).Contents (Elt F)),
    binary main_v6 main_v7 main_v8 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v5 main_v8 main_arg2 main_v9 ((fun x i u => Host.scatter scatter_S8x1_S2_S4_0_1_01_0 (fun _ b => b) x i u) : (⟨S8x1, .f32⟩ : BufTy).Contents (Elt F) → (⟨S2, .i32⟩ : BufTy).Contents (Elt F) → (⟨S4, .f32⟩ : BufTy).Contents (Elt F) → (⟨S8x1, .f32⟩ : BufTy).Contents (Elt F)) ]

/-- Between the calls: the input transposed. After them: the output transposed back. -/
def midOps : List (HloOp τ sig (Elt F)) :=
  [ unary main_arg0 main_v11 ((transpose S4x16384 [1, 0] · transposes_S16384x4_S4x16384_1_0) : (⟨S16384x4, .f32⟩ : BufTy).Contents (Elt F) → (⟨S4x16384, .f32⟩ : BufTy).Contents (Elt F)) ]
def postOps : List (HloOp τ sig (Elt F)) :=
  [ unary main_v12 main_v13 ((transpose S16384x4 [1, 0] · transposes_S4x16384_S16384x4_1_0) : (⟨S4x16384, .f32⟩ : BufTy).Contents (Elt F) → (⟨S16384x4, .f32⟩ : BufTy).Contents (Elt F)) ]

theorem main_eq (d : Dev nD) : main (F := F) d = (seq preOps >>= fun _ => Prog.lift (.customCall (SparseCore.inner (Pipeline.entry 0)) ()) >>= fun _ =>
    seq midOps >>= fun _ => (sc (F := F)).run d 0 >>= fun _ => seq postOps) := by
  simp only [main, preOps, midOps, postOps, seq, bind_assoc, pure_bind]

/-! ## The contents of the arrays, step by step -/

/-- The padded values and the padded bias. -/
def vPad (v : S4x501.Idx → F .f32) : S8x512.Idx → F .f32 :=
  Host.scatter scatter_S8x512_S2_S4x501_01_n_01_0 (fun _ b => b) (broadcastInDim S8x512 ![] bcast_S_S8x512 (constant S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) v
def bPad (b : S4.Idx → F .f32) : S8x1.Idx → F .f32 :=
  Host.scatter scatter_S8x1_S2_S4_0_1_01_0 (fun _ b => b) (broadcastInDim S8x1 ![] bcast_S_S8x1 (constant S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) b

/-- The kernel's result, from the three arguments. -/
def kerOut (x : S16384x4.Idx → F .f32) (v : S4x501.Idx → F .f32) (b : S4.Idx → F .f32) : S16384x4.Idx → F .f32 :=
  transpose S16384x4 [1, 0] (outFn (n := 16384) (k0_pay2 (F := F) (vPad v) (bPad b)) (k0_pay1 (F := F) (vPad v))
    (transpose S4x16384 [1, 0] x transposes_S16384x4_S4x16384_1_0)) transposes_S4x16384_S16384x4_1_0

variable (m : (ℓ : Loc nD τ sig) → Buf (Elt F) ℓ) (ρ : Dev nD → PrngReg)

abbrev w' : DevRef τ sig := Proc.devRef .tc (main_v10_0 : Ref sig .tc)
abbrev q' : DevRef τ sig := Proc.devRef .tc (main_v10_1 : Ref sig .tc)
abbrev xt' : DevRef τ sig := Proc.devRef .tc (main_v11 : Ref sig .tc)
abbrev o' : DevRef τ sig := Proc.devRef .tc (main_v12 : Ref sig .tc)
abbrev v' : DevRef τ sig := Proc.devRef .tc (main_v4 : Ref sig .tc)
abbrev b' : DevRef τ sig := Proc.devRef .tc (main_v9 : Ref sig .tc)

/-- At the launch; after the paddings; after the tables; after the transposition; after the call; at the end. -/
def V0 (d : Dev nD) : Valuation τ sig (Elt F) := fun b => m (d, b)
def V1 (d : Dev nD) : Valuation τ sig (Elt F) := after preOps (V0 m d)
def V2 (d : Dev nD) : Valuation τ sig (Elt F) :=
  Function.update (Function.update (V1 m d) w' (k0_pay1 (F := F) (V1 m d v'))) q' (k0_pay2 (F := F) (V1 m d v') (V1 m d b'))
def V3 (d : Dev nD) : Valuation τ sig (Elt F) := after midOps (V2 m d)
def V4 (d : Dev nD) : Valuation τ sig (Elt F) := Function.update (V3 m d) o' (outFn (n := 16384) (V3 m d q') (V3 m d w') (V3 m d xt'))
def V5 (d : Dev nD) : Valuation τ sig (Elt F) := after postOps (V4 m d)

theorem V1_v (d : Dev nD) : V1 m d v' = vPad (m ((SparseCore.T d).loc main_arg1)) := by
  unfold V1 preOps; after_results_simp <;> rfl
theorem V1_b (d : Dev nD) : V1 m d b' = bPad (m ((SparseCore.T d).loc main_arg2)) := by
  unfold V1 preOps; after_results_simp <;> rfl

/-- The arguments are never written. -/
theorem V1_arg0 (d : Dev nD) : V1 m d (Proc.devRef .tc (main_arg0 : Ref sig .tc)) = m ((SparseCore.T d).loc main_arg0) := by
  unfold V1 preOps; after_results_simp <;> rfl
theorem V1_arg1 (d : Dev nD) : V1 m d (Proc.devRef .tc (main_arg1 : Ref sig .tc)) = m ((SparseCore.T d).loc main_arg1) := by
  unfold V1 preOps; after_results_simp <;> rfl
theorem V1_arg2 (d : Dev nD) : V1 m d (Proc.devRef .tc (main_arg2 : Ref sig .tc)) = m ((SparseCore.T d).loc main_arg2) := by
  unfold V1 preOps; after_results_simp <;> rfl

theorem V2_w (d : Dev nD) : V2 m d w' = k0_pay1 (F := F) (V1 m d v') := by
  unfold V2; rw [Function.update_of_ne (show w' ≠ q' by decide), Function.update_self]
theorem V2_q (d : Dev nD) : V2 m d q' = k0_pay2 (F := F) (V1 m d v') (V1 m d b') := by
  unfold V2; rw [Function.update_self]
theorem V2_ne (d : Dev nD) (b : DevRef τ sig) (hw : b ≠ w') (hq : b ≠ q') : V2 m d b = V1 m d b := by
  unfold V2; rw [Function.update_of_ne hq, Function.update_of_ne hw]

theorem V3_ne (d : Dev nD) (b : Ref sig .tc) (h : b ≠ main_v11) : V3 m d (Proc.devRef .tc b) = V2 m d (Proc.devRef .tc b) := by
  unfold V3 midOps; rw [after_cons, after_nil, unary_result_ne _ _ _ _ _ _ h]
theorem V3_x (d : Dev nD) : V3 m d xt' = transpose S4x16384 [1, 0] (V2 m d (Proc.devRef .tc (main_arg0 : Ref sig .tc)) : S16384x4.Idx → F .f32) transposes_S16384x4_S4x16384_1_0 := by
  unfold V3 midOps; rw [after_cons, after_nil, unary_result]
theorem V5_ne (d : Dev nD) (b : Ref sig .tc) (h : b ≠ main_v13) : V5 m d (Proc.devRef .tc b) = V4 m d (Proc.devRef .tc b) := by
  unfold V5 postOps; rw [after_cons, after_nil, unary_result_ne _ _ _ _ _ _ h]

theorem V5_keep (d : Dev nD) (b : Ref sig .tc) (h13 : b ≠ main_v13) (h12 : (Proc.devRef .tc b : DevRef τ sig) ≠ o') (h11 : b ≠ main_v11)
    (hw : (Proc.devRef .tc b : DevRef τ sig) ≠ w') (hq : (Proc.devRef .tc b : DevRef τ sig) ≠ q') : V5 m d (Proc.devRef .tc b) = V1 m d (Proc.devRef .tc b) := by
  rw [V5_ne m d b h13]; unfold V4; rw [Function.update_of_ne h12, V3_ne m d b h11, V2_ne m d _ hw hq]

theorem V5_arg0 (d : Dev nD) : V5 m d (Proc.devRef .tc (main_arg0 : Ref sig .tc)) = m ((SparseCore.T d).loc main_arg0) :=
  (V5_keep m d _ (by decide) (by decide) (by decide) (by decide) (by decide)).trans (V1_arg0 m d)
theorem V5_arg1 (d : Dev nD) : V5 m d (Proc.devRef .tc (main_arg1 : Ref sig .tc)) = m ((SparseCore.T d).loc main_arg1) :=
  (V5_keep m d _ (by decide) (by decide) (by decide) (by decide) (by decide)).trans (V1_arg1 m d)
theorem V5_arg2 (d : Dev nD) : V5 m d (Proc.devRef .tc (main_arg2 : Ref sig .tc)) = m ((SparseCore.T d).loc main_arg2) :=
  (V5_keep m d _ (by decide) (by decide) (by decide) (by decide) (by decide)).trans (V1_arg2 m d)

/-- The result at the end is the kernel's function of the arguments. -/
theorem V5_out (d : Dev nD) : V5 m d (Proc.devRef .tc (main_v13 : Ref sig .tc))
    = kerOut (m ((SparseCore.T d).loc main_arg0)) (m ((SparseCore.T d).loc main_arg1)) (m ((SparseCore.T d).loc main_arg2)) := by
  unfold V5 postOps; rw [after_cons, after_nil, unary_result]
  unfold V4
  rw [Function.update_self, V3_x, V3_ne m d main_v10_1 (by decide), V3_ne m d main_v10_0 (by decide), V2_q, V2_w,
    V2_ne m d _ (by decide) (by decide), V1_arg0, V1_v, V1_b]
  rfl

end Cert.Proof.Spline

end
-- ==== Proof.Launch.lean ====
/-
  The whole program run: the TensorCore's operations, its kernel that makes the two tables, the SparseCores' call.
-/
module

public import proofs.«01_k».proof.Proof.Values

@[expose] public section

noncomputable section

namespace Cert.Proof.Spline

open Cert.KernelIdeal Cert.KernelIdeal.Gen

open Idealize.ShloMosaic Idealize.ShloMosaic.TcCoe Idealize.ShloMosaic.StableHlo
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The launch's ghost state: the handshakes' rounds and the TensorCore pipeline's -/

def u₀ : UU := (initOf (K (F := F)).hsCells (K (F := F)).hsToks,
  (initOf (Pipeline.cells cfgs cellOf_inj) (Pipeline.launchToks cfgs cellOf_inj), 1))

/-- What device `d`'s TensorCore starts with for its pipeline. -/
def G (d : Dev nD) : sProp 𝕄 :=
  iprop(Pipeline.cellsGhost (Pipeline.pin (pcfgs (F := F)) adm) EP 0 d ∗ Pipeline.toksInit (Pipeline.pin (pcfgs (F := F)) adm) EP 0 d)

section
variable (xv : (d : Dev nD) → Buf (Elt F) (xLoc d)) (qv : (d : Dev nD) → Buf (Elt F) (qLoc d)) (wv : (d : Dev nD) → Buf (Elt F) (wLoc d))
  (ov : (d : Dev nD) → Buf (Elt F) (oLoc d))

omit [FloatOps F] in
theorem own_EP (a : UP) : (BI.own (((Emb.inl : Emb UP (UP × Counters)).trans (embR (A := UH) (B := UP × Counters))) a) : sProp 𝕄) = BI.own (EP a) := rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P xv qv wv ov).x q thr) := by
  unfold u₀
  iintro Hu
  ihave H := (ownU_pair _ _) $$ Hu
  icases H with ⟨HH, HR⟩
  ihave H := (own_pair_emb (embR (A := UH) (B := UP × Counters)) _ _) $$ HR
  icases H with ⟨HP, -⟩
  ihave HP := (Entails.of_eq (own_EP _)) $$ HP
  imod (Pipeline.fund_ghost cfgs (EP : Emb UP 𝕄) cellOf_inj) $$ HP with ⟨Hc, Ht⟩
  imodintro
  isplitl [HH]; · iexact HH
  isplitl [Hc Ht]
  · rw [show (fun d : Dev nD => G (F := F) d) = fun d => iprop((bigSep Finset.univ fun p => Pipeline.cellsGhost cfgs EP p d) ∗ bigSep Finset.univ fun p => Pipeline.toksInit cfgs EP p d) from
      funext fun d => by
        rw [bigSep_univ_of_subsingleton (0 : Fin 1), bigSep_univ_of_subsingleton (0 : Fin 1)]; rfl, bigSep_sep']
    isplitl [Hc] <;> iassumption
  unfold P; dsimp only
  rw [show (bigSep Finset.univ fun _ : Thread nD τ => bigSep Finset.univ fun _ : Fin 1 => (iprop(emp) : sProp 𝕄)) = iprop(emp) from by
    exact (bigSep_congr fun _ _ => bigSep_emp_const _).trans (bigSep_emp_const _)]
  iempintro
end

/-! ## The arrays the TensorCore holds -/

/-- Every array that is not scoped. -/
def arrs : Finset (DevRef τ sig) := (StableHlo.tcRefs τ sig).filter fun b => ¬ b.isScoped

theorem unscopedBufs_held (c : Dev nD) (W : Valuation τ sig (Elt F)) : (unscopedBufs c (fun b => W b) : sProp 𝕄) = held (SparseCore.T c) arrs W := by
  unfold unscopedBufs StableHlo.held arrs StableHlo.tcRefs
  rw [Finset.filter_map, bigSep_map]
  rfl

theorem sub_of {op : HloOp τ sig (Elt F)} (l : List (Ref sig .tc)) (h : ∀ b ∈ l, ¬ b.isScoped) (e : op.bufs = (l.map (Proc.devRef (τ := τ) .tc)).toFinset) : op.bufs ⊆ arrs := by
  rw [e]
  intro b hb
  obtain ⟨r, hr, rfl⟩ := List.mem_map.mp (List.mem_toFinset.mp hb)
  exact Finset.mem_filter.mpr ⟨Finset.mem_map.mpr ⟨r, Finset.mem_univ _, rfl⟩, h r hr⟩

/-- The operations touch only these arrays. -/
theorem pre_sub : ∀ op ∈ preOps (F := F), op.bufs ⊆ arrs := by
  rw [← List.forall_iff_forall_mem]
  exact ⟨sub_of [main_cst] (by decide) (by rfl),
    sub_of [main_cst, main_v0] (by decide) (by rfl),
    sub_of [main_c] (by decide) (by rfl),
    sub_of [main_c, main_v1] (by decide) (by rfl),
    sub_of [main_c_0] (by decide) (by rfl),
    sub_of [main_c_0, main_v2] (by decide) (by rfl),
    sub_of [main_v1, main_v2, main_v3] (by decide) (by rfl),
    sub_of [main_v0, main_v3, main_arg1, main_v4] (by decide) (by rfl),
    sub_of [main_cst_1] (by decide) (by rfl),
    sub_of [main_cst_1, main_v5] (by decide) (by rfl),
    sub_of [main_c_2] (by decide) (by rfl),
    sub_of [main_c_2, main_v6] (by decide) (by rfl),
    sub_of [main_c_3] (by decide) (by rfl),
    sub_of [main_c_3, main_v7] (by decide) (by rfl),
    sub_of [main_v6, main_v7, main_v8] (by decide) (by rfl),
    sub_of [main_v5, main_v8, main_arg2, main_v9] (by decide) (by rfl)⟩

theorem pre_fresh : ∀ op ∈ preOps (F := F), op.fresh = ∅ := by
  rw [← List.forall_iff_forall_mem]
  exact ⟨rfl, rfl, rfl, rfl, rfl, rfl, rfl, rfl, rfl, rfl, rfl, rfl, rfl, rfl, rfl, rfl⟩

theorem mid_sub : ∀ op ∈ midOps (F := F), op.bufs ⊆ arrs := by
  unfold midOps; simp only [List.mem_singleton, forall_eq]; exact sub_of [main_arg0, main_v11] (by decide) (by rfl)
theorem mid_fresh : ∀ op ∈ midOps (F := F), op.fresh = ∅ := by
  unfold midOps; simp only [List.mem_singleton, forall_eq]; rfl
theorem post_sub : ∀ op ∈ postOps (F := F), op.bufs ⊆ arrs := by
  unfold postOps; simp only [List.mem_singleton, forall_eq]; exact sub_of [main_v12, main_v13] (by decide) (by rfl)
theorem post_fresh : ∀ op ∈ postOps (F := F), op.fresh = ∅ := by
  unfold postOps; simp only [List.mem_singleton, forall_eq]; rfl

variable (m : (ℓ : Loc nD τ sig) → Buf (Elt F) ℓ) (ρ : Dev nD → PrngReg)

/-! ## The TensorCore's kernel -/

/-- The region of the tables' kernel, the arrays from `V1` to `V2`. -/
def regM : Pipeline.RegionSeg (pcfgs (F := F)) adm (pdats fun c b => V1 m c b) none defs₀ 𝒱₀ (K (F := F)).L (K (F := F)).lev 0 :=
  reg (fun c b => V1 m c b) (fun c b => V2 m c b) launchFacts (fun c => V2_w m c) (fun c => V2_q m c)
    (fun c _ h0 h1 => V2_ne m c _ (devRef_ne_of_ne h0) (devRef_ne_of_ne h1))

theorem regM_pre (c : Dev nD) : (regM m).pre c = iprop(unscopedBufs c (fun b => V1 m c b) ∗ tcOwes (F := F) c) := rfl
theorem regM_post (c : Dev nD) : (regM m).post c = iprop(unscopedBufs c (fun b => V2 m c b) ∗ tcOwes (F := F) c) := rfl

theorem lift_call : SparseCore.liftProg (nD := nD) (sig := sig) (Val := Elt F) (Λ := ΛP (F := F)) (Q := 1) (.op (.customCall (Pipeline.entry 0) ()) .ret)
    = (Prog.lift (.customCall (SparseCore.inner (Pipeline.entry 0)) ()) : Prog (TpuEff nD τ sig (Elt F) (SparseCore.Sig (ΛP (F := F)) 1) .tc) PUnit) := rfl

/-- The call that makes the tables: the arrays from `V1` to `V2`. -/
theorem region_step [∀ e, Nonempty (Elt F e)] (κ : GSem nD τ sig → ℕ) (Pp : (K (F := F)).Pay (N := 1) (nD := nD) (Val := Elt F) (Name := ℕ) (U := UU)) (d : Dev nD) {α : Type} (k : PUnit → Prog (TpuEff nD τ sig (Elt F) (SparseCore.Sig (ΛP (F := F)) 1) .tc) α) (Q : α → sProp 𝕄) :
    iprop(((boundary (SparseCore.T d) ∗ held (SparseCore.T d) arrs (V2 m d) ∗ (K (F := F)).tcSt EH d 0)
          -∗ wp frame (wpE ((K (F := F)).defs (D (F := F))) 𝒱 (SparseCore.T d) none) Set.univ (k ⟨⟩) Q)
        ∗ (boundary (SparseCore.T d) ∗ held (SparseCore.T d) arrs (V1 m d)) ∗ (K (F := F)).tcSt EH d 0 ∗ (K (F := F)).ctx EH Pp κ ∗ G d)
      ⊢ wp frame (wpE ((K (F := F)).defs (D (F := F))) 𝒱 (SparseCore.T d) none) Set.univ
          (Prog.lift (.customCall (SparseCore.inner (Pipeline.entry 0)) ()) >>= k) Q := by
  rw [wp_bind]
  have h := (K (F := F)).wp_liftProg (D (F := F)) 𝒱 (SparseCore.T d) Set.univ none (.op (.customCall (Pipeline.entry 0) ()) .ret)
    (fun a => wp frame (wpE ((K (F := F)).defs (D (F := F))) 𝒱 (SparseCore.T d) none) Set.univ (k a) Q)
  rw [lift_call] at h
  refine .trans ?_ h
  refine .trans ?_ (Pipeline.RegionSeg.wp (pcfgs (F := F)) adm (pdats fun c b => V1 m c b) none cellOf_inj EP defs₀ 𝒱₀ (K (F := F)).L (K (F := F)).lev (regM m) d none (fun _ h => nomatch h) .ret _)
  rw [regM_pre, regM_post]
  unfold G
  iintro ⟨Hk, ⟨Hb, Hh⟩, Hst, #Hctx, Hc, Ht⟩
  unfold SparseCore.Cfg.tcSt
  icases Hst with ⟨HO, Hrest⟩
  isplitl [Hk Hrest]
  · iintro ⟨Hb, Hu, HO⟩
    rw [wp_ret]; imodintro
    iapply Hk
    isplitl [Hb]; · iexact Hb
    isplitl [Hu]; · iapply (Entails.of_eq (unscopedBufs_held d (V2 m d))); iexact Hu
    isplitl [HO] <;> iassumption
  isplitl [Hb]; · iexact Hb
  isplitl [Hh HO]
  · isplitl [Hh]; · iapply (Entails.of_eq (unscopedBufs_held d (V1 m d)).symm); iexact Hh
    iexact HO
  isplitr; · iapply (SparseCore.Cfg.ctx_levAts κ); iexact Hctx
  isplitl [Hc] <;> iassumption

/-! ## The SparseCores' call -/

/-- The payloads at the contents the arrays have when the call is made. -/
abbrev PM : (K (F := F)).Pay (N := 1) (nD := nD) (Val := Elt F) (Name := ℕ) (U := UU) :=
  P (fun d => V3 m d xt') (fun d => V3 m d q') (fun d => V3 m d w') (fun d => V3 m d o')

/-- The four arrays the call takes. -/
abbrev four : Finset (DevRef τ sig) := {xt', q', w', o'}

theorem four_sub : four ⊆ arrs := by unfold arrs; decide

theorem held_four (d : Dev nD) (W : Valuation τ sig (Elt F)) :
    (held (SparseCore.T d) four W : sProp 𝕄) = iprop((xLoc d ↦{fullShare} W xt') ∗ (qLoc d ↦{fullShare} W q') ∗ (wLoc d ↦{fullShare} W w') ∗ oLoc d ↦{fullShare} W o') := by
  unfold held
  rw [SparseCore.bigSep_insert' (by decide), SparseCore.bigSep_insert' (by decide), SparseCore.bigSep_insert' (by decide), bigSep_singleton]

/-- The call of the SparseCore kernel: the arrays from `V3` to `V4`. -/
theorem call_step (κ : GSem nD τ sig → ℕ) (d : Dev nD) {α : Type} (k : PUnit → Prog (TpuEff nD τ sig (Elt F) (SparseCore.Sig (ΛP (F := F)) 1) .tc) α) (Q : α → sProp 𝕄) :
    iprop(((held (SparseCore.T d) arrs (V4 m d) ∗ (K (F := F)).tcSt EH d 1)
          -∗ wp frame (wpE ((K (F := F)).defs (D (F := F))) 𝒱 (SparseCore.T d) none) Set.univ (k ⟨⟩) Q)
        ∗ held (SparseCore.T d) arrs (V3 m d) ∗ (K (F := F)).tcSt EH d 0 ∗ (K (F := F)).ctx EH (PM m) κ)
      ⊢ wp frame (wpE ((K (F := F)).defs (D (F := F))) 𝒱 (SparseCore.T d) none) Set.univ ((sc (F := F)).run d 0 >>= k) Q := by
  rw [wp_bind]
  iintro ⟨Hk, Hh, Hst, #Hctx⟩
  ihave H := (Entails.of_eq (held_sub_split (SparseCore.T d) four_sub (V3 m d))) $$ Hh
  icases H with ⟨H4, Hrest⟩
  ihave H4 := (Entails.of_eq (held_four d (V3 m d))) $$ H4
  ihave H4 := (deal (fun d => V3 m d xt') (fun d => V3 m d q') (fun d => V3 m d w') (fun d => V3 m d o') d) $$ H4
  icases H4 with ⟨Hgive, Hkept⟩
  iapply ((K (F := F)).wp_run (D (F := F)) 𝒱 (EH := EH) (P := PM m) κ d 0) $$ [Hk Hst Hgive Hkept Hrest]
  isplitr; · iexact Hctx
  isplitl [Hst]; · iexact Hst
  isplitl [Hgive]; · iexact Hgive
  iintro ⟨Hst, Hdn⟩
  ihave H4 := (undeal (fun d => V3 m d xt') (fun d => V3 m d q') (fun d => V3 m d w') d) $$ [Hdn Hkept]
  · isplitl [Hdn]; · iexact Hdn
    iexact Hkept
  iapply Hk
  isplitr [Hst]
  · iapply (Entails.of_eq (held_sub_split (SparseCore.T d) four_sub (V4 m d)).symm)
    isplitl [H4]
    · iapply (Entails.of_eq (held_four d (V4 m d)).symm)
      unfold V4
      rw [Function.update_of_ne (show xt' ≠ o' by decide), Function.update_of_ne (show q' ≠ o' by decide), Function.update_of_ne (show w' ≠ o' by decide), Function.update_self]
      iexact H4
    · iapply (Entails.of_eq (held_congr (SparseCore.T d) (S := arrs \ four) (V := V3 m d) (V' := V4 m d) fun b hb =>
        (Function.update_of_ne (show b ≠ o' from fun e => (Finset.mem_sdiff.mp hb).2 (e ▸ (show o' ∈ four by decide))) _ _).symm))
      iexact Hrest
  iexact Hst

/-! ## The program -/

/-- What the program leaves: every array at its last contents. -/
abbrev FIN (d : Dev nD) : sProp 𝕄 := held (SparseCore.T d) arrs (V5 m d)

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) arrs (V0 m d) from unscopedBufs_held d (V0 m d)]
  iintro ⟨#Hctx, Hst, ⟨Hb, Hh, Hts, -⟩, Hg⟩
  iapply (wp_seq 𝒱 none Set.univ d arrs _ preOps pre_sub pre_fresh (V0 m d)) $$ [Hb Hh]
  · isplitl [Hb] <;> iassumption
  iintro Hbh
  iapply (region_step m κ (PM m) d _ _)
  isplitr [Hbh Hst Hg]; swap
  · isplitl [Hbh]; · iexact Hbh
    isplitl [Hst]; · iexact Hst
    isplitr; · iexact Hctx
    iexact Hg
  iintro ⟨Hb, Hh, Hst⟩
  iapply (wp_seq 𝒱 none Set.univ d arrs _ midOps mid_sub mid_fresh (V2 m d)) $$ [Hb Hh]
  · isplitl [Hb] <;> iassumption
  iintro ⟨Hb, Hh⟩
  iapply (call_step m κ d _ _)
  isplitr [Hh Hst]; swap
  · isplitl [Hh]; · iexact Hh
    isplitl [Hst]; · iexact Hst
    iexact Hctx
  iintro ⟨Hh, Hst⟩
  rw [show (seq postOps : Prog (TpuEff nD τ sig (Elt F) (SparseCore.Sig (ΛP (F := F)) 1) .tc) PUnit) = (seq postOps >>= fun _ => pure ⟨⟩) from (bind_pure _).symm]
  iapply (wp_seq 𝒱 none Set.univ d arrs _ postOps post_sub post_fresh (V4 m d)) $$ [Hb Hh]
  · isplitl [Hb] <;> iassumption
  iintro ⟨Hb, Hh⟩
  rw [wp_pure]; imodintro
  isplitl [Hst]; · iexact Hst
  isplitl [Hh]; · iexact Hh
  isplitl [Hb] <;> iassumption

/-- One array's contents in the final memory. -/
theorem read_held (d : Dev nD) (b : Ref sig .tc) (hb : (Proc.devRef .tc b : DevRef τ sig) ∈ arrs) (W : Valuation τ sig (Elt F)) (s' : Phys nD τ sig (Elt F)) :
    iprop(held (SparseCore.T d) arrs W ∗ SI s') ⊢ (⌜s'.mem.mem ((SparseCore.T d).loc b) = W (Proc.devRef .tc b)⌝ : sProp 𝕄) := by
  unfold held
  iintro ⟨Hh, HSI⟩
  ihave Hx := (show (bigSep arrs fun b : DevRef τ sig => (((SparseCore.T d : Thread nD τ).1, b) ↦{fullShare} W b : sProp 𝕄)) ⊢ _ from bigSep_elim hb) $$ Hh
  ihave H := (SI_pointsTo_agree (st := s') (ℓ := (SparseCore.T d).loc b) (I := Finset.univ) (q := fullShare) (f := W (Proc.devRef .tc b))) $$ [HSI Hx]
  · isplitl [HSI] <;> iassumption
  icases H with %hx
  ipureintro; exact funext fun i => hx i (Finset.mem_univ i)

/-- What the end says of device `d`: the result, and the arguments as at the launch. -/
def fq (d : Dev nD) (s' : Phys nD τ sig (Elt F)) : Prop :=
  (s'.mem.mem ((SparseCore.T d).loc main_v13) = kerOut (m ((SparseCore.T d).loc main_arg0)) (m ((SparseCore.T d).loc main_arg1)) (m ((SparseCore.T d).loc main_arg2)))
  ∧ s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)

theorem hfin (d : Dev nD) (s' : Phys nD τ sig (Elt F)) : iprop(FIN m d ∗ SI s') ⊢ (⌜fq m d s'⌝ : sProp 𝕄) := by
  iintro H
  ihave H := (persistent_entails_right (read_held d main_v13 (by unfold arrs; decide) (V5 m d) s')) $$ H
  icases H with ⟨%h0, H⟩
  ihave H := (persistent_entails_right (read_held d main_arg0 (by unfold arrs; decide) (V5 m d) s')) $$ H
  icases H with ⟨%h1, H⟩
  ihave H := (persistent_entails_right (read_held d main_arg1 (by unfold arrs; decide) (V5 m d) s')) $$ H
  icases H with ⟨%h2, H⟩
  ihave H := (read_held d main_arg2 (by unfold arrs; decide) (V5 m d) s') $$ H
  icases H with %h3
  ipureintro
  exact ⟨h0.trans (V5_out m d), h1.trans (V5_arg0 m d), h2.trans (V5_arg1 m d), h3.trans (V5_arg2 m d)⟩

/-- Every run of the program ends, on every device, with the result at the kernel's function of the arguments, the arguments
    as they were and every semaphore at zero. -/
theorem run_main [∀ e, Nonempty (Elt F e)] : θ_run (Cert.KernelIdeal.defs (F := F)) (Cert.KernelIdeal.threads (F := F)) ⟨m, fun _ => 0, ρ⟩
    (fun r => (∀ d : Dev nD,
      (r.2.mem ((SparseCore.T d).loc main_v13) = kerOut (m ((SparseCore.T d).loc main_arg0)) (m ((SparseCore.T d).loc main_arg1)) (m ((SparseCore.T d).loc main_arg2)))
      ∧ r.2.mem ((SparseCore.T d).loc main_arg0) = m ((SparseCore.T d).loc main_arg0)
      ∧ r.2.mem ((SparseCore.T d).loc main_arg1) = m ((SparseCore.T d).loc main_arg1)
      ∧ r.2.mem ((SparseCore.T d).loc main_arg2) = m ((SparseCore.T d).loc main_arg2)) ∧ r.2.sem = fun _ => 0) :=
  SparseCore.Cfg.θ_run_sc_quiescent (K := K (F := F)) (D := D (F := F)) (𝒱 := 𝒱) (EH := EH) (P := PM m) (A := ∅) launchFacts v₀
    (fun q hq => match q with | 0 => nomatch hq)
    (fun q _ => match q with | 0 => tileObl _ _ _ _)
    (fun q _ => match q with | 0 => SparseCore.Cfg.VecSplit.of_plain (vecSplit _ _ _ _))
    m ρ main G (FIN m) (u₀ (F := F)) (sep_elim_left.trans (hu₀ _ _ _ _)) (hmain m ρ) (fq m) (hfin m) _ (fun _ h hz => ⟨h, hz⟩)

end Cert.Proof.Spline

end
-- ==== Proof.Frames.lean ====
/-
  The frames of the kernel, at the machine's floats and at the ideal ones: both are the run of `Launch.lean`.
-/
module

public import proofs.«01_k».proof.Proof.Launch
public import proofs.«01_k».proof.Proof.Gen.Kernel

@[expose] public section

noncomputable section

namespace Cert.Proof.Spline

open Idealize.ShloMosaic Idealize.ShloMosaic.TcCoe Idealize.SL.Sem

local instance : Cert.Kernel.Facts := Cert.Kernel.Gen.facts
local instance : Cert.KernelIdeal.Facts := Cert.KernelIdeal.Gen.facts

/-- The kernel read at the ideal floats ends with its arguments unchanged and every semaphore at zero. -/
theorem frame_ideal : Cert.quiescent_KernelIdeal := fun m ρ _ =>
  (θ_run Cert.KernelIdeal.defs _ _).mono (fun _ h => ⟨fun c => (h.1 c).2, h.2⟩) (run_main (F := Ideal) m ρ)

section
variable {F : FTy → Type} [FloatOps F]

/-! The two printed programs are one text: the same main, the same bodies. -/

theorem prep_same : @Cert.Kernel.cc0__prep_body F _ _ = @Cert.KernelIdeal.cc0__prep_body F _ _ := rfl
theorem body_same : @Cert.Kernel.cc1__sc_body F _ _ = @Cert.KernelIdeal.cc1__sc_body F _ _ := rfl

theorem defs₀_same : @Cert.Kernel.defs₀ F _ _ = @Cert.KernelIdeal.defs₀ F _ _ := by
  funext p ℓ a
  match p, ℓ, a with
  | .tc, 0, (t, s) => rfl
  | .tc, 1, a => rfl
  | .scScalar _, 0, a => rfl
  | .scScalar _, 1, a => rfl
  | .scVector _ _, 0, a => rfl
  | .scVector _ _, 1, a => rfl

theorem defs_same : @Cert.Kernel.defs F _ _ = @Cert.KernelIdeal.defs F _ _ :=
  congrArg (fun D => (Cert.KernelIdeal.sc (F := F)).defs (Pipeline.defs Cert.KernelIdeal.pcfgs D)) defs₀_same

theorem main_same : @Cert.Kernel.main F _ _ = @Cert.KernelIdeal.main F _ _ := rfl

end

/-- The kernel read at the machine's floats does too. -/
theorem frame_bits : Cert.quiescent_Kernel := fun m ρ _ => by
  rw [defs_same]
  exact (θ_run Cert.KernelIdeal.defs _ _).mono (fun _ h => ⟨fun c => (h.1 c).2, h.2⟩) (run_main (F := Bits) m ρ)

end Cert.Proof.Spline

end
-- ==== Proof.RefRun.lean ====
/-
  The reference's run: its frame. The program is operations on whole arrays and declares no semaphore.
-/
module

public import proofs.«01_k».proof.Defs
public import proofs.«01_k».proof.Proof.Gen.ReferenceIdeal.Run
public import Idealize.ShloMosaic.Adequacy
public import Idealize.ShloMosaic.Lib.Quiescent

@[expose] public section

noncomputable section

namespace Cert.Proof.Spline

open Idealize.ShloMosaic Idealize.SL.Sem

/-- The reference ends with its arguments unchanged and every semaphore at zero. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Spline

end
-- ==== Proof.Equation.lean ====
/-
  The sum at the heart of the two programs, over the extended reals and with no program in sight.

  The reference adds up, over all the segments, the segment's width times its weight: the full width for a segment
  below number `k`, a part of it for segment `k`, nothing above. The kernel takes the sum of the weights below `k` from a
  table, times the width, and adds the part of segment `k` on its own. Weights may be infinite, so the one distribution
  used is the one that holds for terms that are not negative.
-/
module

public import Mathlib.Data.EReal.Operations
public import Mathlib.Algebra.BigOperators.Fin
public import Mathlib.Algebra.Order.BigOperators.Group.Finset
public import Mathlib.Algebra.BigOperators.Group.Finset.Piecewise

@[expose] public section

namespace Cert.Proof.Spline

open scoped BigOperators

/-- A sum of terms that are not negative, times a factor, is the sum of the products, infinite terms included. -/
theorem sum_mul_of_nonneg (s : Finset ℕ) (g : ℕ → EReal) (c : EReal) (hg : ∀ j, 0 ≤ g j) :
    (∑ j ∈ s, g j) * c = ∑ j ∈ s, c * g j := by
  classical
  induction s using Finset.induction_on with
  | empty => simp
  | insert a s ha ih =>
    rw [Finset.sum_insert ha, Finset.sum_insert ha, EReal.right_distrib_of_nonneg (hg a) (Finset.sum_nonneg fun j _ => hg j), ih, EReal.mul_comm c]

/-- A sum over the first `n` numbers that counts only those below `k` is the sum over the first `k`. -/
theorem sum_below (n k : ℕ) (hk : k ≤ n) (g : ℕ → EReal) :
    (∑ j ∈ Finset.range n, if j < k then g j else 0) = ∑ j ∈ Finset.range k, g j := by
  rw [← Finset.sum_filter]
  refine Finset.sum_congr (Finset.ext fun j => ?_) fun _ _ => rfl
  simp only [Finset.mem_filter, Finset.mem_range]
  omega

/-- The table's sum of the weights below `k`, times the width `S`, plus the part `d` of segment `k`, is the reference's sum over
    all the segments. The table's row is padded from 501 entries to 512; what the padding holds does not matter. -/
theorem table_sum (S d : EReal) (w : Fin 501 → EReal) (hw : ∀ j, 0 ≤ w j) (W : Fin 512 → EReal)
    (hW : ∀ j : Fin 501, W ⟨j.val, by omega⟩ = w j) (k : Fin 501) :
    (∑ j : Fin 512, W j * (if j.val < k.val then 1 else 0)) * S + d * w k
      = ∑ j : Fin 501, (if j.val = k.val then d else if j.val < k.val then S else 0) * w j := by
  obtain ⟨g, hg⟩ : ∃ g : ℕ → EReal, ∀ j : Fin 501, g j.val = w j :=
    ⟨fun n => if h : n < 501 then w ⟨n, h⟩ else 0, fun j => dif_pos j.isLt⟩
  obtain ⟨p, hp⟩ : ∃ p : ℕ → EReal, p = fun n => if n < k.val then g n else 0 := ⟨_, rfl⟩
  have hk := k.isLt
  have hg0 : ∀ n, 0 ≤ p n := by
    intro n
    rw [hp]
    dsimp only
    split
    · next h => rw [hg ⟨n, by omega⟩]; exact hw _
    · exact le_refl _
  have e1 : (∑ j : Fin 512, W j * (if j.val < k.val then 1 else 0)) = ∑ j ∈ Finset.range k.val, p j := by
    rw [← sum_below 512 k.val (by omega) p, ← Fin.sum_univ_eq_sum_range (fun n => if n < k.val then p n else 0) 512]
    refine Finset.sum_congr rfl fun j _ => ?_
    rw [hp]
    dsimp only
    by_cases h : j.val < k.val
    · rw [if_pos h, if_pos h, if_pos h, mul_one, hg ⟨j.val, by omega⟩, ← hW]
    · rw [if_neg h, if_neg h, mul_zero]
  have e2 : (∑ j : Fin 501, (if j.val = k.val then d else if j.val < k.val then S else 0) * w j)
      = (∑ j : Fin 501, if j.val < k.val then S * p j.val else 0) + ∑ j : Fin 501, if j = k then d * w j else 0 := by
    rw [← Finset.sum_add_distrib]
    refine Finset.sum_congr rfl fun j _ => ?_
    by_cases h : j = k
    · subst h
      rw [if_pos rfl, if_neg (lt_irrefl _), if_pos rfl, zero_add]
    · have h' : j.val ≠ k.val := fun q => h (Fin.ext q)
      rw [if_neg h', if_neg h, add_zero]
      by_cases h2 : j.val < k.val
      · rw [if_pos h2, if_pos h2, hp]
        dsimp only
        rw [if_pos h2, hg]
      · rw [if_neg h2, if_neg h2, zero_mul]
  rw [e1, e2, sum_mul_of_nonneg _ _ _ hg0, Finset.sum_ite_eq' Finset.univ k fun j => d * w j, if_pos (Finset.mem_univ k),
    Fin.sum_univ_eq_sum_range (fun n => if n < k.val then S * p n else 0) 501, sum_below 501 k.val (by omega)]

end Cert.Proof.Spline

end
-- ==== Proof.Pad.lean ====
/-
  The padded arrays read at an index: the four rows of 501 weights stand at the start of the 8 × 512 array, and the four
  biases at the start of the 8 × 1 one.
-/
module

public import proofs.«01_k».proof.Proof.Values
public import Idealize.ShloMosaic.Lib.Routing.OpsSet

@[expose] public section

noncomputable section

namespace Cert.Proof.Spline

open Cert.KernelIdeal Cert.KernelIdeal.Gen

open Idealize.ShloMosaic Idealize.ShloMosaic.ValueIdx Idealize.ShloMosaic.Routing

variable {F : FTy → Type} [FloatOps F]

/-- The place the two paddings start from: the origin. -/
def origin : IVec S2 32 :=
  concatenate S2 0 [⟨S1, broadcastInDim S1 ![] bcast_S_S1 (constantI S_ 32 0#32)⟩, ⟨S1, broadcastInDim S1 ![] bcast_S_S1 (constantI S_ 32 0#32)⟩] concatenates_S1_S1_S2_d0

/-- Both coordinates of the origin are zero. -/
theorem origin_apply (a : S2.Idx) : origin a = 0#32 := by
  obtain ⟨i, rfl⟩ : ∃ i, a = ix1 i := ⟨_, eq_ix1 a⟩
  match i with
  | ⟨0, _⟩ => rfl
  | ⟨1, _⟩ => rfl

/-- A window that starts at the origin starts at zero on every axis. -/
theorem start_origin {s u : Shape} (d : ScatterDims s S2 u) (k : u.Idx) (a : Fin s.rank) : d.start k origin a = 0 := by
  unfold ScatterDims.start
  split
  · rw [origin_apply]; rfl
  · rfl

/-- Weight `(r, c)` is written at place `(r, c)` of the padded array. -/
theorem weight_lands (r : Fin 4) (c : Fin 501) (R : Fin 8) (C : Fin 512) :
    scatter_S8x512_S2_S4x501_01_n_01_0.resultIdx? (ix2 r c) origin = some (ix2 R C) ↔ r.val = R.val ∧ c.val = C.val := by
  refine (resultIdx?_ix2 (R := 8) (C := 512) scatter_S8x512_S2_S4x501_01_n_01_0 (ix2 r c) origin R C).trans ?_
  have s0 : scatter_S8x512_S2_S4x501_01_n_01_0.start (ix2 r c) origin 0 = 0 := start_origin _ _ _
  have s1 : scatter_S8x512_S2_S4x501_01_n_01_0.start (ix2 r c) origin 1 = 0 := start_origin _ _ _
  have w0 : scatter_S8x512_S2_S4x501_01_n_01_0.window (ix2 r c) 0 = r.val := rfl
  have w1 : scatter_S8x512_S2_S4x501_01_n_01_0.window (ix2 r c) 1 = c.val := rfl
  rw [s0, s1, w0, w1]
  omega

/-- The padded weights hold weight `(r, c)` at place `(r, c)`. -/
theorem vPad_apply (v : S4x501.Idx → F .f32) (r : Fin 4) (c : Fin 501) :
    vPad v (ix2 (⟨r.val, by omega⟩ : Fin 8) (⟨c.val, by omega⟩ : Fin 512)) = v (ix2 r c) := by
  refine scatter_set_hit scatter_S8x512_S2_S4x501_01_n_01_0 _ origin v _ _ (fun k hk => ?_) (ix2 r c) ((weight_lands r c _ _).2 ⟨rfl, rfl⟩)
  obtain ⟨r', c', rfl⟩ : ∃ r' c', k = ix2 r' c' := ⟨_, _, eq_ix2 k⟩
  obtain ⟨h1, h2⟩ := (weight_lands r' c' _ _).1 hk
  rw [show r' = r from Fin.ext h1, show c' = c from Fin.ext h2]

/-- Bias `r` is written at place `(r, 0)` of the padded array. -/
theorem bias_lands (r : Fin 4) (R : Fin 8) (C : Fin 1) :
    scatter_S8x1_S2_S4_0_1_01_0.resultIdx? (ix1 r) origin = some (ix2 R C) ↔ r.val = R.val := by
  refine (resultIdx?_ix2 (R := 8) (C := 1) scatter_S8x1_S2_S4_0_1_01_0 (ix1 r) origin R C).trans ?_
  have s0 : scatter_S8x1_S2_S4_0_1_01_0.start (ix1 r) origin 0 = 0 := start_origin _ _ _
  have s1 : scatter_S8x1_S2_S4_0_1_01_0.start (ix1 r) origin 1 = 0 := start_origin _ _ _
  have w0 : scatter_S8x1_S2_S4_0_1_01_0.window (ix1 r) 0 = r.val := rfl
  have w1 : scatter_S8x1_S2_S4_0_1_01_0.window (ix1 r) 1 = 0 := rfl
  rw [s0, s1, w0, w1]
  omega

/-- The padded bias holds bias `r` at place `(r, 0)`. -/
theorem bPad_apply (b : S4.Idx → F .f32) (r : Fin 4) :
    bPad b (ix2 (⟨r.val, by omega⟩ : Fin 8) (0 : Fin 1)) = b (ix1 r) := by
  refine scatter_set_hit scatter_S8x1_S2_S4_0_1_01_0 _ origin b _ _ (fun k hk => ?_) (ix1 r) ((bias_lands r _ _).2 rfl)
  obtain ⟨r', rfl⟩ : ∃ r', k = ix1 r' := ⟨_, eq_ix1 k⟩
  rw [show r' = r from Fin.ext ((bias_lands r' _ _).1 hk)]

end Cert.Proof.Spline

end

end
-- ==== Proof.Tables.lean ====
/-
  The two tables of the first kernel read at an index, over the extended reals: the weights cut off below zero, and the
  running sum of the weights below each place, times the step, plus the offset and the bias.
-/
module

public import proofs.«01_k».proof.Proof.Pad
public import Idealize.ShloMosaic.Lib.MatmulPlain
public import Idealize.ShloMosaic.Lib.IdealHost
public import Idealize.ShloMosaic.Lib.WordCmp

@[expose] public section

noncomputable section

namespace Cert.Proof.Spline

open Cert.KernelIdeal Cert.KernelIdeal.Gen

open Idealize.ShloMosaic Idealize.ShloMosaic.ValueIdx
open scoped BigOperators

/-- The step, the width of a segment, as a real number. -/
def step : EReal := Ideal.ofBits .f32 0x3D4CCCCD#32
/-- The offset added to every sum. -/
def offset : EReal := Ideal.ofBits .f32 0xC1886666#32

/-- The pattern of zero denotes zero. -/
theorem zero_word : Ideal.ofBits .f32 0x00000000#32 = 0 := Ideal.ofBits_zero_f32
/-- The pattern of one denotes one. -/
theorem one_word : Ideal.ofBits .f32 0x3F800000#32 = 1 := Ideal.ofBits_one_f32

/-- The place of row `u`, segment `k`, by its coordinates. -/
theorem tabIx_eq (u : Fin 4) (k : BitVec 32) (hk : k.toNat ≤ 500) :
    tabIx u k = ix2 (⟨u.val, by omega⟩ : Fin 8) (⟨k.toNat, by omega⟩ : Fin 512) := by
  funext a
  match a with
  | ⟨0, _⟩ => rfl
  | ⟨1, _⟩ => exact Fin.ext (Nat.mod_eq_of_lt (by omega))

/-- The table of weights: the padded weights, cut off below zero. -/
theorem pay1_apply (V : S8x512.Idx → Ideal .f32) (j : S8x512.Idx) : k0_pay1 (F := Ideal) V j = max (V j) 0 := by
  have e : shapeCast S8x512 V shapeCasts_S8x512_S8x512 j = V j := shapeCast_apply V _ j j rfl
  show max (shapeCast S8x512 V shapeCasts_S8x512_S8x512 j) (Ideal.ofBits .f32 0x00000000#32) = _
  rw [e, zero_word]

/-- The triangle of ones: at row `a`, column `c` it is one where `a` is below `c` and zero elsewhere. -/
theorem triangle_apply (a c : Fin 512) :
    (select (cmpi .slt (iota .tc S512x512 32 [0] iota_S512x512_d0_w32) (iota .tc S512x512 32 [1] iota_S512x512_d1_w32))
      (broadcast S512x512 (Scalar.ofBits .f32 0x3F800000#32)) (broadcast S512x512 (Scalar.ofBits .f32 0x00000000#32)) : FVec Ideal S512x512 .f32) (ix2 a c)
      = if a.val < c.val then 1 else 0 := by
  show Scalar.select (IntOp.cmpi .slt (iota .tc S512x512 32 [0] iota_S512x512_d0_w32 (ix2 a c)) (iota .tc S512x512 32 [1] iota_S512x512_d1_w32 (ix2 a c)))
    (Ideal.ofBits .f32 0x3F800000#32) (Ideal.ofBits .f32 0x00000000#32) = _
  rw [zero_word, one_word, iota_single_apply, iota_single_apply, WordCmp.cmpi_slt_ofNat, WordCmp.select_decide]
  · exact lt_trans a.isLt (by decide)
  · exact lt_trans c.isLt (by decide)

/-- The table of running sums at row `u`, place `c`. -/
theorem pay2_apply (V : S8x512.Idx → Ideal .f32) (B : S8x1.Idx → Ideal .f32) (u : Fin 8) (c : Fin 512) :
    k0_pay2 (F := Ideal) V B (ix2 u c)
      = (∑ j : Fin 512, max (V (ix2 u j)) 0 * (if j.val < c.val then 1 else 0)) * step + offset + B (ix2 u (0 : Fin 1)) := by
  have eb : broadcastTo S8x512 (shapeCast S8x1 B shapeCasts_S8x1_S8x1) broadcasts_S8x1_S8x512 (ix2 u c) = B (ix2 u (0 : Fin 1)) := by
    refine (broadcastTo_apply _ _ (ix2 u c) (ix2 u (0 : Fin 1)) fun a => ?_).trans (shapeCast_apply B _ _ _ rfl)
    match a with
    | ⟨0, _⟩ => rfl
    | ⟨1, _⟩ => rfl
  show FloatOps.matmul (DotDims.plain 8 512 512) (some .fp32) (k0_pay1 (F := Ideal) V)
      (select (cmpi .slt (iota .tc S512x512 32 [0] iota_S512x512_d0_w32) (iota .tc S512x512 32 [1] iota_S512x512_d1_w32))
        (broadcast S512x512 (Scalar.ofBits .f32 0x3F800000#32)) (broadcast S512x512 (Scalar.ofBits .f32 0x00000000#32)))
      (constant S8x512 .f32 0x00000000#32) (ix2 u c) * step + offset
      + broadcastTo S8x512 (shapeCast S8x1 B shapeCasts_S8x1_S8x1) broadcasts_S8x1_S8x512 (ix2 u c) = _
  rw [eb, Ideal.matmul_plain_apply]
  have e0 : (constant S8x512 .f32 0x00000000#32 : FVec Ideal S8x512 .f32) (ix2 u c) = 0 := zero_word
  rw [e0, zero_add]
  refine congrArg (fun s => s * step + offset + B (ix2 u (0 : Fin 1))) (Finset.sum_congr rfl fun j _ => ?_)
  rw [pay1_apply, triangle_apply]

end Cert.Proof.Spline

end

end
-- ==== Proof.RefValue.lean ====
/-
  The reference's result read at an index, over the extended reals, in the words of the kernel's own arithmetic: the
  element's shifted value, its segment number, and the sum over all the segments.
-/
module

public import proofs.«01_k».proof.Proof.Tables
public import proofs.«01_k».proof.Proof.Gen.ReferenceIdeal.Run
public import Idealize.ShloMosaic.Lib.ValueLayout

@[expose] public section

noncomputable section

namespace Cert.Proof.Spline

open Cert.ReferenceIdeal Cert.ReferenceIdeal.Gen

open Idealize.ShloMosaic Idealize.ShloMosaic.TcCoe Idealize.ShloMosaic.ValueIdx
open scoped BigOperators

/-! ## The reference's arrays -/

/-- One scalar spread over the whole result. -/
def all {α : Type} (a : S_.Idx → α) : S16384x4.Idx → α := broadcastInDim S16384x4 ![] bcast_S_S16384x4 a

/-- An array of one value per result, spread over the segments. -/
def spread {α : Type} (y : S16384x4.Idx → α) : S16384x4x501.Idx → α :=
  broadcastInDim S16384x4x501 ![0, 1, 2] bcast_S16384x4x1_S16384x4x501_0_1_2 (broadcastInDim S16384x4x1 ![0, 1] bcast_S16384x4_S16384x4x1_0_1 y)

/-- The segments' own numbers, spread over the results. -/
def numbers : IVec S16384x4x501 32 :=
  broadcastInDim S16384x4x501 ![0, 1, 2] bcast_S1x1x501_S16384x4x501_0_1_2 (shapeCast _ (iotaInDim S501 32 0) shapeCasts_S501_S1x1x501)

/-- The weights cut off below zero, spread over the results. -/
def weights (v : S4x501.Idx → Ideal .f32) : S16384x4x501.Idx → Ideal .f32 :=
  broadcastInDim S16384x4x501 ![0, 1, 2] bcast_S1x4x501_S16384x4x501_0_1_2 (broadcastInDim S1x4x501 ![1, 2] bcast_S4x501_S1x4x501_1_2
    (maximumf (φ := .f32) v (broadcastInDim S4x501 ![] bcast_S_S4x501 (constant S_ .f32 0x00000000#32))))

/-- The bias, spread over the results. -/
def biases (b : S4.Idx → Ideal .f32) : S16384x4.Idx → Ideal .f32 :=
  broadcastInDim S16384x4 ![0, 1] bcast_S1x4_S16384x4_0_1 (broadcastInDim S1x4 ![1] bcast_S4_S1x4_1 b)

/-- The shifted values of all the elements. -/
def refShifted (x : S16384x4.Idx → Ideal .f32) : FVec Ideal S16384x4 .f32 :=
  addf (subf (minimumf (all (id (constant S_ .f32 0x41000000#32))) (maximumf (all (id (constant S_ .f32 0xC1880000#32))) x))
    (all (constant S_ .f32 0xC1880000#32))) (all (constant S_ .f32 0x3D4CCCCD#32))

/-- The segment numbers of all the elements. -/
def refSegment (x : S16384x4.Idx → Ideal .f32) : IVec S16384x4 32 :=
  minsi (all (id (constantI S_ 32 500#32))) (maxsi (all (id (constantI S_ 32 0#32)))
    (fptosi 32 (Host.divf (refShifted x) (all (constant S_ .f32 0x3D4CCCCD#32)))))

/-- The parts of their own segments that the elements reach. -/
def refPart (x : S16384x4.Idx → Ideal .f32) : FVec Ideal S16384x4 .f32 :=
  subf (refShifted x) (mulf (sitofp .f32 (refSegment x)) (all (constant S_ .f32 0x3D4CCCCD#32)))

/-- The terms the reference adds up: each segment's width for the element, times its weight. -/
def refTerms (x : S16384x4.Idx → Ideal .f32) (v : S4x501.Idx → Ideal .f32) : FVec Ideal S16384x4x501 .f32 :=
  mulf (select (cmpi .eq numbers (spread (refSegment x))) (spread (refPart x))
    (select (cmpi .slt numbers (spread (refSegment x))) (broadcastInDim S16384x4x501 ![] bcast_S_S16384x4x501 (constant S_ .f32 0x3D4CCCCD#32))
      (broadcastInDim S16384x4x501 ![] bcast_S_S16384x4x501 (constant S_ .f32 0x00000000#32)))) (weights v)

/-- The reference's result from its three arguments. -/
def refOut (x : S16384x4.Idx → Ideal .f32) (v : S4x501.Idx → Ideal .f32) (b : S4.Idx → Ideal .f32) : FVec Ideal S16384x4 .f32 :=
  Host.divf (all (constant S_ .f32 0x3F800000#32)) (addf (all (constant S_ .f32 0x3F800000#32)) (Host.exp (Host.negf
    (addf (addf (Host.reduceAdd (refTerms x v) (constant S_ .f32 0x00000000#32) reducesTo_S16384x4x501_S16384x4_d2 h_S_)
      (all (constant S_ .f32 0xC1886666#32))) (biases b)))))

set_option maxRecDepth 8192 in
/-- What the reference's run leaves in its result is `refOut` of its arguments. -/
theorem run_value (m : (ℓ : Loc nD τ sig) → Buf (Elt Ideal) ℓ) (c : Dev nD) :
    Cert.ReferenceIdeal.Value.res_main_v44 (F := Ideal) m c
      = refOut (m ((c.tc : Thread nD τ).loc main_arg0)) (m ((c.tc : Thread nD τ).loc main_arg1)) (m ((c.tc : Thread nD τ).loc main_arg2)) := rfl

/-! ## The arrays at an index -/

/-- A spread value at a segment is the value of the result. -/
theorem spread_apply {α : Type} (y : S16384x4.Idx → α) (i : Fin 16384) (u : Fin 4) (j : Fin 501) : spread y (ix3 i u j) = y (ix2 i u) := by
  refine (broadcastInDim_apply _ _ _ (ix3 i u j) (ix3 i u (0 : Fin 1)) fun a => ?_).trans
    (broadcastInDim_apply _ _ y (ix3 i u (0 : Fin 1)) (ix2 i u) fun a => ?_)
  · match a with
    | ⟨0, _⟩ => rfl
    | ⟨1, _⟩ => rfl
    | ⟨2, _⟩ => rfl
  · match a with
    | ⟨0, _⟩ => rfl
    | ⟨1, _⟩ => rfl

/-- The number of segment `j` is `j`. -/
theorem numbers_apply (i : Fin 16384) (u : Fin 4) (j : Fin 501) : numbers (ix3 i u j) = BitVec.ofNat 32 j.val := by
  refine (broadcastInDim_apply _ _ _ (ix3 i u j) (ix3 (0 : Fin 1) (0 : Fin 1) j) fun a => ?_).trans
    (shapeCast_apply _ _ (ix3 (0 : Fin 1) (0 : Fin 1) j) (ix1 j) ?_)
  · match a with
    | ⟨0, _⟩ => rfl
    | ⟨1, _⟩ => rfl
    | ⟨2, _⟩ => rfl
  · rw [Shape.rowMajor_val_one, Shape.rowMajor_val_three]
    show j.val = (0 * 1 + 0) * 501 + j.val
    omega

/-- The spread weights at an index. -/
theorem weights_apply (v : S4x501.Idx → Ideal .f32) (i : Fin 16384) (u : Fin 4) (j : Fin 501) :
    weights v (ix3 i u j) = max (v (ix2 u j)) 0 := by
  refine (broadcastInDim_apply _ _ _ (ix3 i u j) (ix3 (0 : Fin 1) u j) fun a => ?_).trans
    ((broadcastInDim_apply _ _ _ (ix3 (0 : Fin 1) u j) (ix2 u j) fun a => ?_).trans ?_)
  · match a with
    | ⟨0, _⟩ => rfl
    | ⟨1, _⟩ => rfl
    | ⟨2, _⟩ => rfl
  · match a with
    | ⟨0, _⟩ => rfl
    | ⟨1, _⟩ => rfl
  · show max (v (ix2 u j)) (Ideal.ofBits .f32 0x00000000#32) = _
    rw [zero_word]

/-- The spread bias at an index. -/
theorem biases_apply (b : S4.Idx → Ideal .f32) (i : Fin 16384) (u : Fin 4) : biases b (ix2 i u) = b (ix1 u) := by
  refine (broadcastInDim_apply _ _ _ (ix2 i u) (ix2 (0 : Fin 1) u) fun a => ?_).trans
    (broadcastInDim_apply _ _ b (ix2 (0 : Fin 1) u) (ix1 u) fun a => ?_)
  · match a with
    | ⟨0, _⟩ => rfl
    | ⟨1, _⟩ => rfl
  · match a with
    | ⟨0, _⟩ => rfl

/-- Keeping a number within `0 … 500`, in either order of the two operands. -/
theorem clamp_comm (y : BitVec 32) : IntOp.minsi 500#32 (IntOp.maxsi 0#32 y) = IntOp.minsi (IntOp.maxsi y 0#32) 500#32 := by
  have swap : ∀ a b : BitVec 32, IntOp.maxsi a b = IntOp.maxsi b a := fun a b => by
    refine BitVec.eq_of_toInt_eq ?_
    simp only [IntOp.maxsi, BitVec.slt_eq_decide, decide_eq_true_eq]
    split <;> split <;> omega
  have swap' : ∀ a b : BitVec 32, IntOp.minsi a b = IntOp.minsi b a := fun a b => by
    refine BitVec.eq_of_toInt_eq ?_
    simp only [IntOp.minsi, BitVec.slt_eq_decide, decide_eq_true_eq]
    split <;> split <;> omega
  rw [swap 0#32 y, swap']

/-- The reference shifts an element as the kernel does. -/
theorem refShifted_apply (x : S16384x4.Idx → Ideal .f32) (j : S16384x4.Idx) : refShifted x j = shifted (F := Ideal) (x j) := by
  show min (Ideal.ofBits .f32 0x41000000#32) (max (Ideal.ofBits .f32 0xC1880000#32) (x j)) - Ideal.ofBits .f32 0xC1880000#32 + Ideal.ofBits .f32 0x3D4CCCCD#32
    = min (max (x j) (Ideal.ofBits .f32 0xC1880000#32)) (Ideal.ofBits .f32 0x41000000#32) - Ideal.ofBits .f32 0xC1880000#32 + Ideal.ofBits .f32 0x3D4CCCCD#32
  rw [min_comm, max_comm]

/-- The reference numbers an element's segment as the kernel does. -/
theorem refSegment_apply (x : S16384x4.Idx → Ideal .f32) (j : S16384x4.Idx) : refSegment x j = segment (F := Ideal) (x j) := by
  show IntOp.minsi 500#32 (IntOp.maxsi 0#32 (Ideal.fptosi 32 (Ideal.div (refShifted x j) (Ideal.ofBits .f32 0x3D4CCCCD#32)))) = _
  rw [clamp_comm, refShifted_apply]
  rfl

/-- How far into its segment an element lies. -/
def part (x : Ideal .f32) : EReal := shifted (F := Ideal) x - FloatOps.sitofp (F := Ideal) .f32 (segment (F := Ideal) x) * step

/-- The reference takes that part as the kernel does. -/
theorem refPart_apply (x : S16384x4.Idx → Ideal .f32) (j : S16384x4.Idx) : refPart x j = part (x j) := by
  show refShifted x j - FloatOps.sitofp (F := Ideal) .f32 (refSegment x j) * step = _
  rw [refShifted_apply, refSegment_apply]
  rfl

/-- One term of the reference's sum. -/
theorem refTerms_apply (x : S16384x4.Idx → Ideal .f32) (v : S4x501.Idx → Ideal .f32) (i : Fin 16384) (u : Fin 4) (j : Fin 501) :
    refTerms x v (ix3 i u j)
      = (if j.val = (segment (F := Ideal) (x (ix2 i u))).toNat then part (x (ix2 i u))
          else if j.val < (segment (F := Ideal) (x (ix2 i u))).toNat then step else 0) * max (v (ix2 u j)) 0 := by
  show Scalar.select (IntOp.cmpi .eq (numbers (ix3 i u j)) (spread (refSegment x) (ix3 i u j))) (spread (refPart x) (ix3 i u j))
      (Scalar.select (IntOp.cmpi .slt (numbers (ix3 i u j)) (spread (refSegment x) (ix3 i u j))) step (Ideal.ofBits .f32 0x00000000#32))
      * weights v (ix3 i u j) = _
  rw [numbers_apply, spread_apply, spread_apply, weights_apply, refSegment_apply, refPart_apply, zero_word]
  have hs := segment_le (F := Ideal) (x (ix2 i u))
  have hj : (BitVec.ofNat 32 j.val).toNat = j.val := by
    rw [BitVec.toNat_ofNat]; exact Nat.mod_eq_of_lt (lt_trans j.isLt (by decide))
  rw [WordCmp.cmpi_eq_eq_toNat, WordCmp.cmpi_slt_of_lt (by rw [hj]; exact lt_trans j.isLt (by decide)) (lt_of_le_of_lt hs (by decide)),
    WordCmp.select_decide, WordCmp.select_decide, hj]

/-- The last steps of the reference at an index: the offset, the bias, and the logistic function. -/
theorem refLogistic_apply (R B : FVec Ideal S16384x4 .f32) (j : S16384x4.Idx) :
    Host.divf (all (constant S_ .f32 0x3F800000#32)) (addf (all (constant S_ .f32 0x3F800000#32)) (Host.exp (Host.negf
      (addf (addf R (all (constant S_ .f32 0xC1886666#32))) B)))) j = Ideal.div 1 (1 + Ideal.exp (-(R j + offset + B j))) := by
  show Ideal.div (Ideal.ofBits .f32 0x3F800000#32) (Ideal.ofBits .f32 0x3F800000#32 + Ideal.exp (-(R j + offset + B j))) = _
  rw [one_word]

/-- The reference's result at row `i`, unit `u`. -/
theorem refOut_apply (x : S16384x4.Idx → Ideal .f32) (v : S4x501.Idx → Ideal .f32) (b : S4.Idx → Ideal .f32) (i : Fin 16384) (u : Fin 4) :
    refOut x v b (ix2 i u)
      = Ideal.div 1 (1 + Ideal.exp (-((∑ j : Fin 501, (if j.val = (segment (F := Ideal) (x (ix2 i u))).toNat then part (x (ix2 i u))
          else if j.val < (segment (F := Ideal) (x (ix2 i u))).toNat then step else 0) * max (v (ix2 u j)) 0) + offset + b (ix1 u)))) := by
  have es : Host.reduceAdd (refTerms x v) (constant S_ .f32 0x00000000#32) reducesTo_S16384x4x501_S16384x4_d2 h_S_ (ix2 i u)
      = ∑ j : Fin 501, refTerms x v (ix3 i u j) := by
    rw [hostReduceAdd_apply, Ideal.hostReduceAdd_single reducesTo_S16384x4x501_S16384x4_d2 (by decide : Shape.Reduces S16384x4x501 [2] S16384x4)]
    refine (congrArg (· + _) (show (constant S_ .f32 0x00000000#32 : FVec Ideal S_ .f32) (Shape.Idx.first h_S_) = 0 from zero_word)).trans ?_
    rw [zero_add]
    refine Finset.sum_congr rfl fun j _ => congrArg (refTerms x v) ?_
    funext a
    match a with
    | ⟨0, _⟩ => rfl
    | ⟨1, _⟩ => rfl
    | ⟨2, _⟩ => rfl
  refine (refLogistic_apply _ _ _).trans ?_
  rw [es, biases_apply]
  simp only [refTerms_apply]

end Cert.Proof.Spline

end

end
-- ==== Proof.Algebraic.lean ====
/-
  The value claim: over the extended reals, from equal arguments, the kernel leaves in its result what the reference
  leaves in its own, at every one of the 16384 × 4 places and with nothing asked of the arguments.
-/
module

public import proofs.«01_k».proof.Proof.Launch
public import proofs.«01_k».proof.Proof.Equation
public import proofs.«01_k».proof.Proof.RefValue

@[expose] public section

noncomputable section

namespace Cert.Proof.Spline

open Idealize.ShloMosaic Idealize.ShloMosaic.ValueIdx Idealize.SL.Sem
open scoped BigOperators

/-- The kernel's value at an element, written out. -/
theorem interp_eq (x : Ideal .f32) (q w : EReal) :
    interp (F := Ideal) x (segment (F := Ideal) x) q w = Ideal.div 1 (1 + Ideal.exp (-(q + part x * w))) := by
  show Ideal.div (Ideal.ofBits .f32 0x3F800000#32) (Ideal.ofBits .f32 0x3F800000#32 + Ideal.exp (Ideal.ofBits .f32 0x00000000#32 - (q + part x * w))) = _
  rw [one_word, zero_word, zero_sub]

/-- The kernel's value at an element of unit `u` is the reference's. -/
theorem cell_eq (v : Cert.KernelIdeal.S4x501.Idx → Ideal .f32) (b : Cert.KernelIdeal.S4.Idx → Ideal .f32) (u : Fin 4) (x : Ideal .f32) :
    cell (F := Ideal) (Cert.KernelIdeal.Gen.k0_pay2 (F := Ideal) (vPad v) (bPad b)) (Cert.KernelIdeal.Gen.k0_pay1 (F := Ideal) (vPad v)) u x
      = Ideal.div 1 (1 + Ideal.exp (-((∑ j : Fin 501, (if j.val = (segment (F := Ideal) x).toNat then part x
          else if j.val < (segment (F := Ideal) x).toNat then step else 0) * max (v (ix2 u j)) 0) + offset + b (ix1 u)))) := by
  have hs := segment_le (F := Ideal) x
  unfold cell
  rw [interp_eq, tabIx_eq u _ hs, pay1_apply, pay2_apply, bPad_apply b u, vPad_apply v u ⟨(segment (F := Ideal) x).toNat, by omega⟩,
    ← table_sum step (part x) (fun j => max (v (ix2 u j)) 0) (fun j => le_max_right _ _)
      (fun j => max (vPad v (ix2 (⟨u.val, by omega⟩ : Fin 8) j)) 0) (fun j => by rw [vPad_apply v u j]) ⟨(segment (F := Ideal) x).toNat, by omega⟩]
  have hadd : ∀ A B C D : EReal, A + B + C + D = A + D + B + C := fun A B C D => by
    rw [add_right_comm (A + B) C D, add_right_comm A B D]
  exact congrArg (fun z => Ideal.div 1 (1 + Ideal.exp (-z))) (hadd _ _ _ _)

/-- The kernel's result is the reference's. -/
theorem kerOut_eq (x : Cert.KernelIdeal.S16384x4.Idx → Ideal .f32) (v : Cert.KernelIdeal.S4x501.Idx → Ideal .f32)
    (b : Cert.KernelIdeal.S4.Idx → Ideal .f32) : kerOut (F := Ideal) x v b = refOut x v b := by
  funext j
  obtain ⟨i, u, rfl⟩ : ∃ i u, j = ix2 i u := ⟨_, _, eq_ix2 j⟩
  rw [refOut_apply]
  unfold kerOut
  refine (transpose_ix2_apply _ _ i u).trans ?_
  refine Eq.trans ?_ (cell_eq v b u (x (ix2 i u)))
  exact congrArg (cell (F := Ideal) _ _ u) (transpose_ix2_apply x _ u i)

/-- From any memory, the two programs end with equal results and their arguments unchanged. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => kerOut (F := Ideal) (m ((SparseCore.T c).loc Cert.KernelIdeal.main_arg0)) (m ((SparseCore.T c).loc Cert.KernelIdeal.main_arg1))
    (m ((SparseCore.T c).loc Cert.KernelIdeal.main_arg2)), ?_, ?_⟩
  · exact (θ_run Cert.KernelIdeal.defs _ _).mono (fun r h c => h.1 c) (run_main (F := Ideal) m g)
  · refine (θ_run Cert.ReferenceIdeal.defs _ _).mono (fun r h c => ⟨(h c).1.trans ?_, (h c).2⟩) (Cert.ReferenceIdeal.Value.run (F := Ideal) m' g')
    refine (run_value m' c).trans ?_
    rw [(hag c).1, (hag c).2.1, (hag c).2.2]
    exact (kerOut_eq _ _ _).symm

end Cert.Proof.Spline

end

end
-- ==== Proof.lean ====
/-
  The certificate: the frames of the kernel at both readings and of the reference, that the ideal program is the kernel's
  own text, and that over the extended reals the kernel computes what the reference does.
-/
module

public import proofs.«01_k».proof.Defs
public import proofs.«01_k».proof.Proof.Frames
public import proofs.«01_k».proof.Proof.RefRun
public import proofs.«01_k».proof.Proof.Algebraic

@[expose] public section

noncomputable section

namespace Cert.Proof

/-- Everything that Defs.lean claims. -/
theorem claim : Cert.Claim := ⟨Cert.Kernel.Gen.facts, Cert.KernelIdeal.Gen.facts, Cert.ReferenceIdeal.Gen.facts,
  Spline.frame_bits, Spline.frame_ideal, Spline.frame_ref, trivial, Spline.algebraic⟩

end Cert.Proof

end
